-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_levels [hPre_levels : Cert.Pre_levels.Facts] (m : (ℓ : Loc Cert.KernelIdeal.nD Cert.KernelIdeal.τ Cert.KernelIdeal.sig) → Buf (Elt Ideal) ℓ) : Prop :=
  ∀ c : Dev Cert.KernelIdeal.nD,
    (Cert.Pre_levels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_levels [hPre_levels : Cert.Pre_levels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_levels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_levels [hKernelIdeal : Cert.KernelIdeal.Facts] [hPre_levels : Cert.Pre_levels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_levels m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_levels [hReferenceIdeal : Cert.ReferenceIdeal.Facts] [hPre_levels : Cert.Pre_levels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_levels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S64x2x3072 Cert.KernelIdeal.S64x1x3072
  ∧ IdealRules.bf16_pair.BufferStatement Cert.KernelIdeal.S1536x2x512 Cert.KernelIdeal.S1536x1x512
  ∧ IdealRules.bf16_pair.Statement Cert.KernelIdeal.S128x256 Cert.KernelIdeal.S64x256
  ∧ IdealRules.bf16_pair.Statement Cert.KernelIdeal.S64x2x256 Cert.KernelIdeal.S64x1x256
  ∧ IdealRules.bf16_pair.PackStatement Cert.KernelIdeal.S8x128
  ∧ IdealRules.bf16_pair.Statement Cert.KernelIdeal.S8x2x128 Cert.KernelIdeal.S8x1x128
  ∧ IdealRules.bf16_pair.Statement Cert.KernelIdeal.S64x2x3072 Cert.KernelIdeal.S64x1x3072
  ∧ IdealRules.bf16_pair.Statement Cert.KernelIdeal.S128x3072 Cert.KernelIdeal.S64x3072
  ∧ IdealRules.bf16_pair.Statement Cert.KernelIdeal.S1536x2x256 Cert.KernelIdeal.S1536x1x256
  ∧ IdealRules.bf16_pair.Statement Cert.KernelIdeal.S3072x256 Cert.KernelIdeal.S1536x256

def algebraic_KernelIdeal_ReferenceIdeal_pre_levels [hKernelIdeal : Cert.KernelIdeal.Facts] [hReferenceIdeal : Cert.ReferenceIdeal.Facts] [hPre_levels : Cert.Pre_levels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_levels m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_levels : Cert.Pre_levels.Facts),
    quiescent_Kernel (hKernel := hKernel)
    ∧ quiescent_KernelIdeal (hKernelIdeal := hKernelIdeal)
    ∧ quiescent_KernelIdeal_pre_levels (hKernelIdeal := hKernelIdeal) (hPre_levels := hPre_levels)
    ∧ quiescent_ReferenceIdeal (hReferenceIdeal := hReferenceIdeal)
    ∧ quiescent_ReferenceIdeal_pre_levels (hReferenceIdeal := hReferenceIdeal) (hPre_levels := hPre_levels)
    ∧ preserves_Kernel_KernelIdeal
    ∧ algebraic_KernelIdeal_ReferenceIdeal_pre_levels (hKernelIdeal := hKernelIdeal) (hReferenceIdeal := hReferenceIdeal) (hPre_levels := hPre_levels)
-- ==== Pre_levels.lean ====
abbrev S1x128x3072 : Shape := ⟨3, ![1, 128, 3072]⟩
abbrev S96x8192x2 : Shape := ⟨3, ![96, 8192, 2]⟩
abbrev S12x8192 : Shape := ⟨2, ![12, 8192]⟩
abbrev S256x8 : Shape := ⟨2, ![256, 8]⟩
abbrev S_ : Shape := ⟨0, ![]⟩

class Facts : Prop where
  bcast_S_S256x8 : S_.BroadcastsInDim S256x8 (![] : Fin 0 → Fin S256x8.rank)

variable [Facts]

def fn {F : FTy → Type} [FloatOps F] (main_arg0 : FVec F S1x128x3072 .bf16) (main_arg1 : IVec S96x8192x2 32) (main_arg2 : FVec F S12x8192 .f32) (main_arg3 : IVec S256x8 8) : IVec S256x8 1 :=
  let main_c : IVec S_ 8 := constantI S_ 8 8#8
  let main_v0 : IVec S256x8 8 := broadcastInDim S256x8 ![] bcast_S_S256x8 main_c
  let main_v1 : IVec S256x8 1 := cmpi .eq main_arg3 main_v0
  let main_c_0 : IVec S_ 8 := constantI S_ 8 25#8
  let main_v2 : IVec S256x8 8 := broadcastInDim S256x8 ![] bcast_S_S256x8 main_c_0
  let main_v3 : IVec S256x8 1 := cmpi .eq main_arg3 main_v2
  let main_v4 : IVec S256x8 1 := ori main_v1 main_v3
  let main_c_1 : IVec S_ 8 := constantI S_ 8 43#8
  let main_v5 : IVec S256x8 8 := broadcastInDim S256x8 ![] bcast_S_S256x8 main_c_1
  let main_v6 : IVec S256x8 1 := cmpi .eq main_arg3 main_v5
  let main_v7 : IVec S256x8 1 := ori main_v4 main_v6
  main_v7
-- ==== Kernel.lean ====
abbrev S1x128x3072 : Shape := ⟨3, ![1, 128, 3072]⟩
abbrev S96x8192x2 : Shape := ⟨3, ![96, 8192, 2]⟩
abbrev S12x8192 : Shape := ⟨2, ![12, 8192]⟩
abbrev S256x8 : Shape := ⟨2, ![256, 8]⟩
abbrev S96x64x128x2 : Shape := ⟨4, ![96, 64, 128, 2]⟩
abbrev S96x64x2x128 : Shape := ⟨4, ![96, 64, 2, 128]⟩
abbrev S96x128x128 : Shape := ⟨3, ![96, 128, 128]⟩
abbrev S128x3072 : Shape := ⟨2, ![128, 3072]⟩
abbrev S8x256 : Shape := ⟨2, ![8, 256]⟩
abbrev S128x8192 : Shape := ⟨2, ![128, 8192]⟩
abbrev S96x8x128 : Shape := ⟨3, ![96, 8, 128]⟩
abbrev S12x512 : Shape := ⟨2, ![12, 512]⟩
abbrev S128x512 : Shape := ⟨2, ![128, 512]⟩
abbrev S64x3072 : Shape := ⟨2, ![64, 3072]⟩
abbrev S10x8x128 : Shape := ⟨3, ![10, 8, 128]⟩
abbrev S1536x512 : Shape := ⟨2, ![1536, 512]⟩
abbrev S8x128 : Shape := ⟨2, ![8, 128]⟩
abbrev S1x256 : Shape := ⟨2, ![1, 256]⟩
abbrev S1x8x128 : Shape := ⟨3, ![1, 8, 128]⟩
abbrev S256x256 : Shape := ⟨2, ![256, 256]⟩
abbrev S128x256 : Shape := ⟨2, ![128, 256]⟩
abbrev S64x256 : Shape := ⟨2, ![64, 256]⟩
abbrev S8x1x128 : Shape := ⟨3, ![8, 1, 128]⟩
abbrev S1x128 : Shape := ⟨2, ![1, 128]⟩
abbrev S32x128 : Shape := ⟨2, ![32, 128]⟩
abbrev S32x128x1 : Shape := ⟨3, ![32, 128, 1]⟩
abbrev S1536x256 : Shape := ⟨2, ![1536, 256]⟩
abbrev S3072x256 : Shape := ⟨2, ![3072, 256]⟩

abbrev nBuf : Space → Nat
  | .hbm => 10
  | .vmem => 11
  | .smem => 0
  | _ => 0

abbrev bufTy : (tb : Table) → Fin (tcTables nBuf tb) → BufTy
  | .hbm, ⟨0, _⟩ => ⟨S1x128x3072, .bf16⟩
  | .hbm, ⟨1, _⟩ => ⟨S96x8192x2, .i32⟩
  | .hbm, ⟨2, _⟩ => ⟨S12x8192, .f32⟩
  | .hbm, ⟨3, _⟩ => ⟨S256x8, .i8⟩
  | .hbm, ⟨4, _⟩ => ⟨S96x64x128x2, .i32⟩
  | .hbm, ⟨5, _⟩ => ⟨S96x64x2x128, .i32⟩
  | .hbm, ⟨6, _⟩ => ⟨S96x128x128, .i32⟩
  | .hbm, ⟨7, _⟩ => ⟨S128x3072, .bf16⟩
  | .hbm, ⟨8, _⟩ => ⟨S8x256, .i8⟩
  | .hbm, ⟨9, _⟩ => ⟨S128x8192, .bf16⟩
  | .local _ .vmem, ⟨0, _⟩ => ⟨S128x3072, .bf16⟩
  | .local _ .vmem, ⟨1, _⟩ => ⟨S96x8x128, .i32⟩
  | .local _ .vmem, ⟨2, _⟩ => ⟨S96x8x128, .i32⟩
  | .local _ .vmem, ⟨3, _⟩ => ⟨S12x512, .f32⟩
  | .local _ .vmem, ⟨4, _⟩ => ⟨S12x512, .f32⟩
  | .local _ .vmem, ⟨5, _⟩ => ⟨S8x256, .i8⟩
  | .local _ .vmem, ⟨6, _⟩ => ⟨S128x512, .bf16⟩
  | .local _ .vmem, ⟨7, _⟩ => ⟨S128x512, .bf16⟩
  | .local _ .vmem, ⟨8, _⟩ => ⟨S64x3072, .i32⟩
  | .local _ .vmem, ⟨9, _⟩ => ⟨S10x8x128, .i32⟩
  | .local _ .vmem, ⟨10, _⟩ => ⟨S1536x512, .i32⟩
  | _, _ => ⟨S1x128x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [BitOps F]

abbrev grid0 : Pipeline.Grid := ⟨1, ![16], ![false]⟩

@[reducible] def k0_t1_loop : Scf.Loop 32 :=
  let c0_i32_1 : BitVec 32 := 0#32
  let c48_i32 : BitVec 32 := 48#32
  let v3 : BitVec 32 := Scalar.addi c0_i32_1 c48_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg9 : BitVec 32 := Scf.iv c0_i32_1 c1_i32 k0_t1
  let c4_i32_14 : BitVec 32 := 4#32
  let v19 : BitVec 32 := Scalar.remsi arg9 c4_i32_14
  let c128_i32 : BitVec 32 := 128#32
  let v20 : BitVec 32 := Scalar.muli v19 c128_i32
  v20
def k0_off1 (k0_t1 : Fin k0_t1_loop.trips) : Fin 3 → Nat :=
  let c8_i32 : BitVec 32 := 8#32
  let c0_i32_1 : BitVec 32 := 0#32
  let c1_i32 : BitVec 32 := 1#32
  let arg9 : BitVec 32 := Scf.iv c0_i32_1 c1_i32 k0_t1
  let c4_i32 : BitVec 32 := 4#32
  let v18 : BitVec 32 := Scalar.divsi arg9 c4_i32
  let v22 : BitVec 32 := Scalar.muli c8_i32 v18
  let v24 : Index := Scalar.indexCast v22
  let c2_i32 : BitVec 32 := 2#32
  let c4_i32_14 : BitVec 32 := 4#32
  let v19 : BitVec 32 := Scalar.remsi arg9 c4_i32_14
  let v23 : BitVec 32 := Scalar.muli c2_i32 v19
  let v25 : Index := Scalar.indexCast v23
  let c0_15 : Index := 0#32
  ![v24.toNat, v25.toNat, 0]
def k0_off2 (k0_t1 : Fin k0_t1_loop.trips) : Fin 3 → Nat :=
  let c8_i32_16 : BitVec 32 := 8#32
  let c0_i32_1 : BitVec 32 := 0#32
  let c1_i32 : BitVec 32 := 1#32
  let arg9 : BitVec 32 := Scf.iv c0_i32_1 c1_i32 k0_t1
  let c4_i32 : BitVec 32 := 4#32
  let v18 : BitVec 32 := Scalar.divsi arg9 c4_i32
  let v28 : BitVec 32 := Scalar.muli c8_i32_16 v18
  let v31 : Index := Scalar.indexCast v28
  let c2_i32_17 : BitVec 32 := 2#32
  let c4_i32_14 : BitVec 32 := 4#32
  let v19 : BitVec 32 := Scalar.remsi arg9 c4_i32_14
  let v29 : BitVec 32 := Scalar.muli c2_i32_17 v19
  let c1_i32_18 : BitVec 32 := 1#32
  let v30 : BitVec 32 := Scalar.addi v29 c1_i32_18
  let v32 : Index := Scalar.indexCast v30
  let c0_19 : Index := 0#32
  ![v31.toNat, v32.toNat, 0]
def k0_off3 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c4_i32 : BitVec 32 := 4#32
  let v18 : BitVec 32 := Scalar.divsi arg9 c4_i32
  let v35 : Index := Scalar.indexCast v18
  let c4_i32_14 : BitVec 32 := 4#32
  let v19 : BitVec 32 := Scalar.remsi arg9 c4_i32_14
  let c128_i32 : BitVec 32 := 128#32
  let v20 : BitVec 32 := Scalar.muli v19 c128_i32
  let v21 : BitVec 32 := v20
  let v36 : Index := Scalar.indexCast v21
  ![v35.toNat, v36.toNat]
def k0_off4 (k0_t1 : Fin k0_t1_loop.trips) (c0_i32_72 : BitVec 32) (c0_i32_73 : BitVec 32) : Fin 2 → Nat :=
  let c0_i32_1 : BitVec 32 := 0#32
  let c1_i32 : BitVec 32 := 1#32
  let arg9 : BitVec 32 := Scf.iv c0_i32_1 c1_i32 k0_t1
  let c4_i32 : BitVec 32 := 4#32
  let v18 : BitVec 32 := Scalar.divsi arg9 c4_i32
  let c128_i32_40 : BitVec 32 := 128#32
  let v58 : BitVec 32 := Scalar.muli v18 c128_i32_40
  let v198 : BitVec 32 := Scalar.addi v58 c0_i32_72
  let v199 : BitVec 32 := Scalar.addi v198 c0_i32_73
  let v201 : Index := Scalar.indexCast v199
  let c4_i32_14 : BitVec 32 := 4#32
  let v19 : BitVec 32 := Scalar.remsi arg9 c4_i32_14
  let c128_i32 : BitVec 32 := 128#32
  let v20 : BitVec 32 := Scalar.muli v19 c128_i32
  let v21 : BitVec 32 := v20
  let v202 : Index := Scalar.indexCast v21
  ![v201.toNat, v202.toNat]
def k0_off5 (k0_t1 : Fin k0_t1_loop.trips) (c0_i32_72 : BitVec 32) (c0_i32_73 : BitVec 32) : Fin 2 → Nat :=
  let c0_i32_1 : BitVec 32 := 0#32
  let c1_i32 : BitVec 32 := 1#32
  let arg9 : BitVec 32 := Scf.iv c0_i32_1 c1_i32 k0_t1
  let c4_i32 : BitVec 32 := 4#32
  let v18 : BitVec 32 := Scalar.divsi arg9 c4_i32
  let c128_i32_40 : BitVec 32 := 128#32
  let v58 : BitVec 32 := Scalar.muli v18 c128_i32_40
  let v198 : BitVec 32 := Scalar.addi v58 c0_i32_72
  let v199 : BitVec 32 := Scalar.addi v198 c0_i32_73
  let c8_i32_74 : BitVec 32 := 8#32
  let v207 : BitVec 32 := Scalar.addi v199 c8_i32_74
  let v208 : Index := Scalar.indexCast v207
  let c4_i32_14 : BitVec 32 := 4#32
  let v19 : BitVec 32 := Scalar.remsi arg9 c4_i32_14
  let c128_i32 : BitVec 32 := 128#32
  let v20 : BitVec 32 := Scalar.muli v19 c128_i32
  let v21 : BitVec 32 := v20
  let v209 : Index := Scalar.indexCast v21
  ![v208.toNat, v209.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S96x8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x256 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
abbrev S1x128x3072 : Shape := ⟨3, ![1, 128, 3072]⟩
abbrev S96x8192x2 : Shape := ⟨3, ![96, 8192, 2]⟩
abbrev S12x8192 : Shape := ⟨2, ![12, 8192]⟩
abbrev S256x8 : Shape := ⟨2, ![256, 8]⟩
abbrev S96x64x128x2 : Shape := ⟨4, ![96, 64, 128, 2]⟩
abbrev S96x64x2x128 : Shape := ⟨4, ![96, 64, 2, 128]⟩
abbrev S96x128x128 : Shape := ⟨3, ![96, 128, 128]⟩
abbrev S128x3072 : Shape := ⟨2, ![128, 3072]⟩
abbrev S8x256 : Shape := ⟨2, ![8, 256]⟩
abbrev S128x8192 : Shape := ⟨2, ![128, 8192]⟩
abbrev S96x8x128 : Shape := ⟨3, ![96, 8, 128]⟩
abbrev S12x512 : Shape := ⟨2, ![12, 512]⟩
abbrev S128x512 : Shape := ⟨2, ![128, 512]⟩
abbrev S64x3072 : Shape := ⟨2, ![64, 3072]⟩
abbrev S64x2x3072 : Shape := ⟨3, ![64, 2, 3072]⟩
abbrev S64x1x3072 : Shape := ⟨3, ![64, 1, 3072]⟩
abbrev S10x8x128 : Shape := ⟨3, ![10, 8, 128]⟩
abbrev S1536x512 : Shape := ⟨2, ![1536, 512]⟩
abbrev S1536x2x512 : Shape := ⟨3, ![1536, 2, 512]⟩
abbrev S1536x1x512 : Shape := ⟨3, ![1536, 1, 512]⟩
abbrev S8x128 : Shape := ⟨2, ![8, 128]⟩
abbrev S1x256 : Shape := ⟨2, ![1, 256]⟩
abbrev S1x8x128 : Shape := ⟨3, ![1, 8, 128]⟩
abbrev S256x256 : Shape := ⟨2, ![256, 256]⟩
abbrev S128x256 : Shape := ⟨2, ![128, 256]⟩
abbrev S64x256 : Shape := ⟨2, ![64, 256]⟩
abbrev S64x2x256 : Shape := ⟨3, ![64, 2, 256]⟩
abbrev S64x1x256 : Shape := ⟨3, ![64, 1, 256]⟩
abbrev S8x1x128 : Shape := ⟨3, ![8, 1, 128]⟩
abbrev S1x128 : Shape := ⟨2, ![1, 128]⟩
abbrev S32x128 : Shape := ⟨2, ![32, 128]⟩
abbrev S32x128x1 : Shape := ⟨3, ![32, 128, 1]⟩
abbrev S8x2x128 : Shape := ⟨3, ![8, 2, 128]⟩
abbrev S1536x256 : Shape := ⟨2, ![1536, 256]⟩
abbrev S1536x2x256 : Shape := ⟨3, ![1536, 2, 256]⟩
abbrev S1536x1x256 : Shape := ⟨3, ![1536, 1, 256]⟩
abbrev S3072x256 : Shape := ⟨2, ![3072, 256]⟩

abbrev nBuf : Space → Nat
  | .hbm => 10
  | .vmem => 11
  | .smem => 0
  | _ => 0

abbrev bufTy : (tb : Table) → Fin (tcTables nBuf tb) → BufTy
  | .hbm, ⟨0, _⟩ => ⟨S1x128x3072, .bf16⟩
  | .hbm, ⟨1, _⟩ => ⟨S96x8192x2, .i32⟩
  | .hbm, ⟨2, _⟩ => ⟨S12x8192, .f32⟩
  | .hbm, ⟨3, _⟩ => ⟨S256x8, .i8⟩
  | .hbm, ⟨4, _⟩ => ⟨S96x64x128x2, .i32⟩
  | .hbm, ⟨5, _⟩ => ⟨S96x64x2x128, .i32⟩
  | .hbm, ⟨6, _⟩ => ⟨S96x128x128, .i32⟩
  | .hbm, ⟨7, _⟩ => ⟨S128x3072, .bf16⟩
  | .hbm, ⟨8, _⟩ => ⟨S8x256, .i8⟩
  | .hbm, ⟨9, _⟩ => ⟨S128x8192, .bf16⟩
  | .local _ .vmem, ⟨0, _⟩ => ⟨S128x3072, .bf16⟩
  | .local _ .vmem, ⟨1, _⟩ => ⟨S96x8x128, .i32⟩
  | .local _ .vmem, ⟨2, _⟩ => ⟨S96x8x128, .i32⟩
  | .local _ .vmem, ⟨3, _⟩ => ⟨S12x512, .f32⟩
  | .local _ .vmem, ⟨4, _⟩ => ⟨S12x512, .f32⟩
  | .local _ .vmem, ⟨5, _⟩ => ⟨S8x256, .i8⟩
  | .local _ .vmem, ⟨6, _⟩ => ⟨S128x512, .bf16⟩
  | .local _ .vmem, ⟨7, _⟩ => ⟨S128x512, .bf16⟩
  | .local _ .vmem, ⟨8, _⟩ => ⟨S64x2x3072, .bf16⟩
  | .local _ .vmem, ⟨9, _⟩ => ⟨S10x8x128, .i32⟩
  | .local _ .vmem, ⟨10, _⟩ => ⟨S1536x2x512, .bf16⟩
  | _, _ => ⟨S1x128x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_1 : BitVec 32 := 0#32
  let c48_i32 : BitVec 32 := 48#32
  let v3 : BitVec 32 := Scalar.addi c0_i32_1 c48_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg9 : BitVec 32 := Scf.iv c0_i32_1 c1_i32 k0_t1
  let c4_i32_14 : BitVec 32 := 4#32
  let v19 : BitVec 32 := Scalar.remsi arg9 c4_i32_14
  let c128_i32 : BitVec 32 := 128#32
  let v20 : BitVec 32 := Scalar.muli v19 c128_i32
  v20
def k0_off1 (k0_t1 : Fin k0_t1_loop.trips) : Fin 3 → Nat :=
  let c8_i32 : BitVec 32 := 8#32
  let c0_i32_1 : BitVec 32 := 0#32
  let c1_i32 : BitVec 32 := 1#32
  let arg9 : BitVec 32 := Scf.iv c0_i32_1 c1_i32 k0_t1
  let c4_i32 : BitVec 32 := 4#32
  let v18 : BitVec 32 := Scalar.divsi arg9 c4_i32
  let v22 : BitVec 32 := Scalar.muli c8_i32 v18
  let v24 : Index := Scalar.indexCast v22
  let c2_i32 : BitVec 32 := 2#32
  let c4_i32_14 : BitVec 32 := 4#32
  let v19 : BitVec 32 := Scalar.remsi arg9 c4_i32_14
  let v23 : BitVec 32 := Scalar.muli c2_i32 v19
  let v25 : Index := Scalar.indexCast v23
  let c0_15 : Index := 0#32
  ![v24.toNat, v25.toNat, 0]
def k0_off2 (k0_t1 : Fin k0_t1_loop.trips) : Fin 3 → Nat :=
  let c8_i32_16 : BitVec 32 := 8#32
  let c0_i32_1 : BitVec 32 := 0#32
  let c1_i32 : BitVec 32 := 1#32
  let arg9 : BitVec 32 := Scf.iv c0_i32_1 c1_i32 k0_t1
  let c4_i32 : BitVec 32 := 4#32
  let v18 : BitVec 32 := Scalar.divsi arg9 c4_i32
  let v28 : BitVec 32 := Scalar.muli c8_i32_16 v18
  let v31 : Index := Scalar.indexCast v28
  let c2_i32_17 : BitVec 32 := 2#32
  let c4_i32_14 : BitVec 32 := 4#32
  let v19 : BitVec 32 := Scalar.remsi arg9 c4_i32_14
  let v29 : BitVec 32 := Scalar.muli c2_i32_17 v19
  let c1_i32_18 : BitVec 32 := 1#32
  let v30 : BitVec 32 := Scalar.addi v29 c1_i32_18
  let v32 : Index := Scalar.indexCast v30
  let c0_19 : Index := 0#32
  ![v31.toNat, v32.toNat, 0]
def k0_off3 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c4_i32 : BitVec 32 := 4#32
  let v18 : BitVec 32 := Scalar.divsi arg9 c4_i32
  let v35 : Index := Scalar.indexCast v18
  let c4_i32_14 : BitVec 32 := 4#32
  let v19 : BitVec 32 := Scalar.remsi arg9 c4_i32_14
  let c128_i32 : BitVec 32 := 128#32
  let v20 : BitVec 32 := Scalar.muli v19 c128_i32
  let v21 : BitVec 32 := v20
  let v36 : Index := Scalar.indexCast v21
  ![v35.toNat, v36.toNat]
def k0_off4 (k0_t1 : Fin k0_t1_loop.trips) (c0_i32_72 : BitVec 32) (c0_i32_73 : BitVec 32) : Fin 3 → Nat :=
  let c0_i32_1 : BitVec 32 := 0#32
  let c1_i32 : BitVec 32 := 1#32
  let arg9 : BitVec 32 := Scf.iv c0_i32_1 c1_i32 k0_t1
  let c4_i32 : BitVec 32 := 4#32
  let v18 : BitVec 32 := Scalar.divsi arg9 c4_i32
  let c128_i32_40 : BitVec 32 := 128#32
  let v58 : BitVec 32 := Scalar.muli v18 c128_i32_40
  let v198 : BitVec 32 := Scalar.addi v58 c0_i32_72
  let v199 : BitVec 32 := Scalar.addi v198 c0_i32_73
  let v201 : Index := Scalar.indexCast v199
  let c4_i32_14 : BitVec 32 := 4#32
  let v19 : BitVec 32 := Scalar.remsi arg9 c4_i32_14
  let c128_i32 : BitVec 32 := 128#32
  let v20 : BitVec 32 := Scalar.muli v19 c128_i32
  let v21 : BitVec 32 := v20
  let v202 : Index := Scalar.indexCast v21
  ![v201.toNat, 0, v202.toNat]
def k0_off5 (k0_t1 : Fin k0_t1_loop.trips) (c0_i32_72 : BitVec 32) (c0_i32_73 : BitVec 32) : Fin 3 → Nat :=
  let c0_i32_1 : BitVec 32 := 0#32
  let c1_i32 : BitVec 32 := 1#32
  let arg9 : BitVec 32 := Scf.iv c0_i32_1 c1_i32 k0_t1
  let c4_i32 : BitVec 32 := 4#32
  let v18 : BitVec 32 := Scalar.divsi arg9 c4_i32
  let c128_i32_40 : BitVec 32 := 128#32
  let v58 : BitVec 32 := Scalar.muli v18 c128_i32_40
  let v198 : BitVec 32 := Scalar.addi v58 c0_i32_72
  let v199 : BitVec 32 := Scalar.addi v198 c0_i32_73
  let c8_i32_74 : BitVec 32 := 8#32
  let v207 : BitVec 32 := Scalar.addi v199 c8_i32_74
  let v208 : Index := Scalar.indexCast v207
  let c4_i32_14 : BitVec 32 := 4#32
  let v19 : BitVec 32 := Scalar.remsi arg9 c4_i32_14
  let c128_i32 : BitVec 32 := 128#32
  let v20 : BitVec 32 := Scalar.muli v19 c128_i32
  let v21 : BitVec 32 := v20
  let v209 : Index := Scalar.indexCast v21
  ![v208.toNat, 0, v209.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S96x8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x256 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1x128x3072 : Shape := ⟨3, ![1, 128, 3072]⟩
abbrev S96x8192x2 : Shape := ⟨3, ![96, 8192, 2]⟩
abbrev S12x8192 : Shape := ⟨2, ![12, 8192]⟩
abbrev S256x8 : Shape := ⟨2, ![256, 8]⟩
abbrev S96x8192x1 : Shape := ⟨3, ![96, 8192, 1]⟩
abbrev S96x8192 : Shape := ⟨2, ![96, 8192]⟩
abbrev S_ : Shape := ⟨0, ![]⟩
abbrev S12x8x8192 : Shape := ⟨3, ![12, 8, 8192]⟩
abbrev S12x1x8192 : Shape := ⟨3, ![12, 1, 8192]⟩
abbrev S4 : Shape := ⟨1, ![4]⟩
abbrev S1x4x1 : Shape := ⟨3, ![1, 4, 1]⟩
abbrev S96x1x8192 : Shape := ⟨3, ![96, 1, 8192]⟩
abbrev S96x4x8192 : Shape := ⟨3, ![96, 4, 8192]⟩
abbrev S96x4x8192x1 : Shape := ⟨4, ![96, 4, 8192, 1]⟩
abbrev S96x4x8192x8 : Shape := ⟨4, ![96, 4, 8192, 8]⟩
abbrev S96x4x8x8192 : Shape := ⟨4, ![96, 4, 8, 8192]⟩
abbrev S8 : Shape := ⟨1, ![8]⟩
abbrev S1x1x8x1 : Shape := ⟨4, ![1, 1, 8, 1]⟩
abbrev S96x4x1x8192 : Shape := ⟨4, ![96, 4, 1, 8192]⟩
abbrev S96x1x1x8192 : Shape := ⟨4, ![96, 1, 1, 8192]⟩
abbrev S3072x8192 : Shape := ⟨2, ![3072, 8192]⟩
abbrev S128x3072 : Shape := ⟨2, ![128, 3072]⟩
abbrev S128x8192 : Shape := ⟨2, ![128, 8192]⟩

abbrev nBuf : Space → Nat
  | .hbm => 82
  | .vmem => 0
  | .smem => 0
  | _ => 0

abbrev bufTy : (tb : Table) → Fin (tcTables nBuf tb) → BufTy
  | .hbm, ⟨0, _⟩ => ⟨S1x128x3072, .bf16⟩
  | .hbm, ⟨1, _⟩ => ⟨S96x8192x2, .i32⟩
  | .hbm, ⟨2, _⟩ => ⟨S12x8192, .f32⟩
  | .hbm, ⟨3, _⟩ => ⟨S256x8, .i8⟩
  | .hbm, ⟨4, _⟩ => ⟨S96x8192x1, .i32⟩
  | .hbm, ⟨5, _⟩ => ⟨S96x8192, .i32⟩
  | .hbm, ⟨6, _⟩ => ⟨S96x8192x1, .i32⟩
  | .hbm, ⟨7, _⟩ => ⟨S96x8192, .i32⟩
  | .hbm, ⟨8, _⟩ => ⟨S_, .i32⟩
  | .hbm, ⟨9, _⟩ => ⟨S96x8192, .i32⟩
  | .hbm, ⟨10, _⟩ => ⟨S96x8192, .i32⟩
  | .hbm, ⟨11, _⟩ => ⟨S96x8192, .i32⟩
  | .hbm, ⟨12, _⟩ => ⟨S96x8192, .f32⟩
  | .hbm, ⟨13, _⟩ => ⟨S12x8x8192, .f32⟩
  | .hbm, ⟨14, _⟩ => ⟨S12x1x8192, .f32⟩
  | .hbm, ⟨15, _⟩ => ⟨S_, .f32⟩
  | .hbm, ⟨16, _⟩ => ⟨S12x8x8192, .f32⟩
  | .hbm, ⟨17, _⟩ => ⟨S12x8x8192, .f32⟩
  | .hbm, ⟨18, _⟩ => ⟨S12x8x8192, .f32⟩
  | .hbm, ⟨19, _⟩ => ⟨S12x8x8192, .f32⟩
  | .hbm, ⟨20, _⟩ => ⟨S_, .f32⟩
  | .hbm, ⟨21, _⟩ => ⟨S12x8x8192, .f32⟩
  | .hbm, ⟨22, _⟩ => ⟨S12x8x8192, .f32⟩
  | .hbm, ⟨23, _⟩ => ⟨S96x8192, .f32⟩
  | .hbm, ⟨24, _⟩ => ⟨S4, .i32⟩
  | .hbm, ⟨25, _⟩ => ⟨S1x4x1, .i32⟩
  | .hbm, ⟨26, _⟩ => ⟨S96x1x8192, .i32⟩
  | .hbm, ⟨27, _⟩ => ⟨S_, .i32⟩
  | .hbm, ⟨28, _⟩ => ⟨S1x4x1, .i32⟩
  | .hbm, ⟨29, _⟩ => ⟨S1x4x1, .i32⟩
  | .hbm, ⟨30, _⟩ => ⟨S96x4x8192, .i32⟩
  | .hbm, ⟨31, _⟩ => ⟨S96x4x8192, .i32⟩
  | .hbm, ⟨32, _⟩ => ⟨S96x4x8192, .i32⟩
  | .hbm, ⟨33, _⟩ => ⟨S_, .i32⟩
  | .hbm, ⟨34, _⟩ => ⟨S96x4x8192, .i32⟩
  | .hbm, ⟨35, _⟩ => ⟨S96x4x8192, .i32⟩
  | .hbm, ⟨36, _⟩ => ⟨S96x1x8192, .i32⟩
  | .hbm, ⟨37, _⟩ => ⟨S_, .i32⟩
  | .hbm, ⟨38, _⟩ => ⟨S1x4x1, .i32⟩
  | .hbm, ⟨39, _⟩ => ⟨S1x4x1, .i32⟩
  | .hbm, ⟨40, _⟩ => ⟨S96x4x8192, .i32⟩
  | .hbm, ⟨41, _⟩ => ⟨S96x4x8192, .i32⟩
  | .hbm, ⟨42, _⟩ => ⟨S96x4x8192, .i32⟩
  | .hbm, ⟨43, _⟩ => ⟨S_, .i32⟩
  | .hbm, ⟨44, _⟩ => ⟨S96x4x8192, .i32⟩
  | .hbm, ⟨45, _⟩ => ⟨S96x4x8192, .i32⟩
  | .hbm, ⟨46, _⟩ => ⟨S96x4x8192, .i32⟩
  | .hbm, ⟨47, _⟩ => ⟨S_, .i32⟩
  | .hbm, ⟨48, _⟩ => ⟨S96x4x8192, .i32⟩
  | .hbm, ⟨49, _⟩ => ⟨S96x4x8192, .i32⟩
  | .hbm, ⟨50, _⟩ => ⟨S_, .i32⟩
  | .hbm, ⟨51, _⟩ => ⟨S96x4x8192, .i32⟩
  | .hbm, ⟨52, _⟩ => ⟨S96x4x8192, .i32⟩
  | .hbm, ⟨53, _⟩ => ⟨S96x4x8192, .i32⟩
  | .hbm, ⟨54, _⟩ => ⟨S256x8, .i32⟩
  | .hbm, ⟨55, _⟩ => ⟨S96x4x8192, .i32⟩
  | .hbm, ⟨56, _⟩ => ⟨S96x4x8192x1, .i32⟩
  | .hbm, ⟨57, _⟩ => ⟨S96x4x8192x8, .i32⟩
  | .hbm, ⟨58, _⟩ => ⟨S96x4x8x8192, .i32⟩
  | .hbm, ⟨59, _⟩ => ⟨S8, .i32⟩
  | .hbm, ⟨60, _⟩ => ⟨S1x1x8x1, .i32⟩
  | .hbm, ⟨61, _⟩ => ⟨S96x4x1x8192, .i32⟩
  | .hbm, ⟨62, _⟩ => ⟨S96x4x8x8192, .i32⟩
  | .hbm, ⟨63, _⟩ => ⟨S96x4x8x8192, .i32⟩
  | .hbm, ⟨64, _⟩ => ⟨S96x4x8x8192, .i32⟩
  | .hbm, ⟨65, _⟩ => ⟨S_, .i32⟩
  | .hbm, ⟨66, _⟩ => ⟨S96x4x8x8192, .i32⟩
  | .hbm, ⟨67, _⟩ => ⟨S96x4x8x8192, .i32⟩
  | .hbm, ⟨68, _⟩ => ⟨S_, .i32⟩
  | .hbm, ⟨69, _⟩ => ⟨S96x4x8x8192, .i32⟩
  | .hbm, ⟨70, _⟩ => ⟨S96x4x8x8192, .i1⟩
  | .hbm, ⟨71, _⟩ => ⟨S96x1x1x8192, .f32⟩
  | .hbm, ⟨72, _⟩ => ⟨S96x4x8x8192, .f32⟩
  | .hbm, ⟨73, _⟩ => ⟨S96x4x8x8192, .f32⟩
  | .hbm, ⟨74, _⟩ => ⟨S96x4x8x8192, .f32⟩
  | .hbm, ⟨75, _⟩ => ⟨S96x4x8x8192, .f32⟩
  | .hbm, ⟨76, _⟩ => ⟨S96x4x8x8192, .f32⟩
  | .hbm, ⟨77, _⟩ => ⟨S96x4x8x8192, .bf16⟩
  | .hbm, ⟨78, _⟩ => ⟨S3072x8192, .bf16⟩
  | .hbm, ⟨79, _⟩ => ⟨S128x3072, .bf16⟩
  | .hbm, ⟨80, _⟩ => ⟨S128x8192, .f32⟩
  | .hbm, ⟨81, _⟩ => ⟨S128x8192, .bf16⟩
  | _, _ => ⟨S1x128x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_5 : Ref sig .tc := ⟨.hbm, 47, rfl⟩
abbrev main_v36 : Ref sig .tc := ⟨.hbm, 48, rfl⟩
abbrev main_v37 : Ref sig .tc := ⟨.hbm, 49, rfl⟩
abbrev main_c_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_call0_v0 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c_7 : Ref sig .tc := ⟨.hbm, 65, rfl⟩
abbrev main_v51 : Ref sig .tc := ⟨.hbm, 66, rfl⟩
abbrev main_v52 : Ref sig .tc := ⟨.hbm, 67, rfl⟩
abbrev main_c_8 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩

abbrev nD : Nat := 1
abbrev τ : Topo := Topo.v7x

variable {F : FTy → Type} [FloatOps F]
-- ==== Proof.Tile.lean ====
module
public import proofs.«01_k».proof.Proof.Gen.KernelIdeal.Loops
@[expose] public section
/-!
# One trip of the decoding loop, in one vocabulary

The decoder of a tile is four byte-wise table lookups, one spread sign word and thirty-two values, stored two at a
time. Here each of these steps has one name, for any reading of the floats, and the sixteen stores of a trip are
written with these names.
-/
namespace Cert.KernelIdeal.Gen
open Idealize.ShloMosaic Idealize.ShloMosaic.TcCoe Idealize.SL Idealize.SL.RA Idealize.SL.BI Idealize.SL.Sem

/-- Byte by byte: the byte of `t` in the same row whose lane is the byte of `idx`. -/
def LOOK (t idx : IVec S8x128 32) : IVec S8x128 32 :=
  bitcast S8x128 32
    (trunci 8
      (dynamicGather 1 (extsi 32 (bitcast S32x128 8 t bitcasts_S8x128_w32_S32x128_w8) natLt_8_32)
        (shapeCast S32x128
          (shapeCast S32x128x1
            (extsi 32 (bitcast S32x128 8 idx bitcasts_S8x128_w32_S32x128_w8) natLt_8_32)
            shapeCasts_S32x128_S32x128x1)
          shapeCasts_S32x128x1_S32x128))
      natLt_8_32)
    bitcasts_S32x128_w8_S8x128_w32

/-- Byte by byte: whether the top bit of `a`'s byte is set. -/
def UPPER (a : IVec S8x128 32) : IVec S32x128 1 :=
  cmpi .ne (bitcast S32x128 8 (andi a (broadcast S8x128 2155905152#32)) bitcasts_S8x128_w32_S32x128_w8)
    (broadcast S32x128 0#8)

/-- Byte by byte: entry `a`'s byte of a table of 256 bytes in two halves. -/
def BYTES (lo hi a : IVec S8x128 32) : IVec S8x128 32 :=
  bitcast S8x128 32
    (select (UPPER a)
      (bitcast S32x128 8 (LOOK hi (andi a (broadcast S8x128 2139062143#32))) bitcasts_S8x128_w32_S32x128_w8)
      (bitcast S32x128 8 (LOOK lo (andi a (broadcast S8x128 2139062143#32))) bitcasts_S8x128_w32_S32x128_w8))
    bitcasts_S32x128_w8_S8x128_w32

/-- Four 7-bit fields spread to four bytes, before the last step. -/
def SPREAD0 (b : IVec S8x128 32) : IVec S8x128 32 :=
  ori (andi b (broadcast S8x128 16383#32)) (andi (shli b (broadcast S8x128 2#32)) (broadcast S8x128 1073676288#32))

/-- Four 7-bit fields spread to four bytes. -/
def SPREAD (b : IVec S8x128 32) : IVec S8x128 32 :=
  addi (SPREAD0 b) (andi (SPREAD0 b) (broadcast S8x128 1065369472#32))

section
variable {F : FTy → Type} [FloatOps F]

/-- The scale of a sub-block. -/
noncomputable def DB (b : IVec S8x128 32) (dq : FVec F S1x128 .f32) : FVec F S8x128 .f32 :=
  mulf (addf (sitofp .f32 (shrui b (broadcast S8x128 28#32))) (broadcast S8x128 (Scalar.ofBits .f32 0x3F000000#32)))
    (broadcastTo S8x128 dq broadcasts_S1x128_S8x128)

/-- The scale times one of the three levels. -/
noncomputable def LV (g : BitVec 32) (b : IVec S8x128 32) (dq : FVec F S1x128 .f32) : FVec F S8x128 .f32 :=
  mulf (DB b dq) (broadcast S8x128 (Scalar.ofBits .f32 g))

/-- The level number held from bit `sh` of `vw`. -/
def LEVEL (vw : IVec S8x128 32) (sh : BitVec 32) : IVec S8x128 32 :=
  andi (shrui vw (broadcast S8x128 sh)) (broadcast S8x128 3#32)

/-- The magnitude the level number chooses. -/
noncomputable def MAG (b : IVec S8x128 32) (dq : FVec F S1x128 .f32) (vw : IVec S8x128 32) (sh : BitVec 32) :
    FVec F S8x128 .f32 :=
  select (cmpi .eq (LEVEL vw sh) (broadcast S8x128 0#32)) (LV 0x41000000#32 b dq)
    (select (cmpi .eq (LEVEL vw sh) (broadcast S8x128 2#32)) (LV 0x41C80000#32 b dq) (LV 0x422C0000#32 b dq))

/-- The magnitude, negated when bit `n` of `sj` is set. -/
noncomputable def VAL (b : IVec S8x128 32) (dq : FVec F S1x128 .f32) (vw sj : IVec S8x128 32) (sh n : BitVec 32) :
    FVec F S8x128 .f32 :=
  select (cmpi .eq (andi (shrui sj (broadcast S8x128 n)) (broadcast S8x128 1#32)) (broadcast S8x128 1#32))
    (subf (broadcast S8x128 (Scalar.ofBits .f32 0x00000000#32)) (MAG b dq vw sh)) (MAG b dq vw sh)

/-- Eight rows of one value and eight of another, rounded and interleaved. -/
noncomputable def PIECE (x y : FVec F S8x128 .f32) : Vec F S8x2x128 .bf16 :=
  interleaveRows S8x2x128 (shapeCast S8x1x128 (truncf .bf16 x) shapeCasts_S8x128_S8x1x128)
    (shapeCast S8x1x128 (truncf .bf16 y) shapeCasts_S8x128_S8x1x128) bitcasts_S8x2x128_w16_S8x1x128_w32

variable (arg2 : Memref sig .tc .vmem S96x8x128 .i32) (arg3 : Memref sig .tc .vmem S12x512 .f32)
  (arg7 : Memref sig .tc .vmem S10x8x128 .i32)
  (X2 : arg2.view.ty.Contents (Elt F)) (X3 : arg3.view.ty.Contents (Elt F)) (X7 : arg7.view.ty.Contents (Elt F))
  (k : Fin k0_t1_loop.trips)

/-- The index words of trip `k`'s tile. -/
def WA : IVec S8x128 32 :=
  shapeCast S8x128 (View.readAt (Elt F) arg2.view (Rect.unit (s := S96x8x128) (k0_off1 k) S8x1x128.size (k0_off1_inb k)).toLoadRect X2)
    shapeCasts_S8x1x128_S8x128

/-- The sign-and-scale words of trip `k`'s tile. -/
def WB : IVec S8x128 32 :=
  shapeCast S8x128 (View.readAt (Elt F) arg2.view (Rect.unit (s := S96x8x128) (k0_off2 k) S8x1x128.size (k0_off2_inb k)).toLoadRect X2)
    shapeCasts_S8x1x128_S8x128

/-- A quarter of the scales of trip `k`'s tile. -/
noncomputable def WD : FVec F S1x128 .f32 :=
  mulf (View.readAt (Elt F) arg3.view (Rect.unit (s := S12x512) (k0_off3 k) S1x128.size (k0_off3_inb k)).toLoadRect X3)
    (broadcast S1x128 (Scalar.ofBits .f32 0x3E800000#32))

/-- Table `n` of the ten. -/
def TAB (n : ℕ) (h : ∀ a, (![n, 0, 0] : Fin 3 → ℕ) a + S1x8x128.size a ≤ S10x8x128.size a) : IVec S8x128 32 :=
  shapeCast S8x128 (View.readAt (Elt F) arg7.view (Rect.unit (s := S10x8x128) ![n, 0, 0] S1x8x128.size h).toLoadRect X7)
    shapeCasts_S1x8x128_S8x128
end

/-- The table bytes a window reads its levels from. -/
def VW (w : ℕ) (v : IVec S8x128 32) : IVec S8x128 32 :=
  if w = 0 then v else shrui v (broadcast S8x128 2#32)

/-- The sign words with the bit of position `j` shifted to the top of each byte. -/
def SJ (j : ℕ) (s : IVec S8x128 32) : IVec S8x128 32 :=
  if j < 7 then shli s (broadcast S8x128 (BitVec.ofNat 32 (7 - j))) else s

/-- The value of field `l` in position `p + 4 w` of its eight. -/
noncomputable def FIELD {F : FTy → Type} [FloatOps F] (b : IVec S8x128 32) (dq : FVec F S1x128 .f32)
    (v s : IVec S8x128 32) (p w l : ℕ) : FVec F S8x128 .f32 :=
  VAL b dq (VW w v) (SJ (p + 4 * w) s) (BitVec.ofNat 32 (8 * l + 3 * w)) (BitVec.ofNat 32 (8 * l + 7))

/-- What one store of the trip writes. -/
noncomputable def STORE {F : FTy → Type} [FloatOps F] (b : IVec S8x128 32) (dq : FVec F S1x128 .f32)
    (v s : IVec S8x128 32) (p w h : ℕ) : Vec F S8x2x128 .bf16 :=
  PIECE (FIELD b dq v s p w h) (FIELD b dq v s p w (h + 2))

section
variable {F : FTy → Type} [FloatOps F]
  (arg2 : Memref sig .tc .vmem S96x8x128 .i32) (arg3 : Memref sig .tc .vmem S12x512 .f32)
  (arg7 : Memref sig .tc .vmem S10x8x128 .i32)
  (X2 : arg2.view.ty.Contents (Elt F)) (X3 : arg3.view.ty.Contents (Elt F)) (X7 : arg7.view.ty.Contents (Elt F))
  (k : Fin k0_t1_loop.trips)

/-- Table pair 0 at the index words. -/
def V0 : IVec S8x128 32 :=
  BYTES (TAB arg7 X7 0 inb_S10x8x128_S1x8x128_0_0_0) (TAB arg7 X7 1 inb_S10x8x128_S1x8x128_1_0_0) (WA arg2 X2 k)

/-- Table pair 1 at the index words. -/
def V1 : IVec S8x128 32 :=
  BYTES (TAB arg7 X7 2 inb_S10x8x128_S1x8x128_2_0_0) (TAB arg7 X7 3 inb_S10x8x128_S1x8x128_3_0_0) (WA arg2 X2 k)

/-- Table pair 2 at the index words. -/
def V2 : IVec S8x128 32 :=
  BYTES (TAB arg7 X7 4 inb_S10x8x128_S1x8x128_4_0_0) (TAB arg7 X7 5 inb_S10x8x128_S1x8x128_5_0_0) (WA arg2 X2 k)

/-- Table pair 3 at the index words. -/
def V3 : IVec S8x128 32 :=
  BYTES (TAB arg7 X7 6 inb_S10x8x128_S1x8x128_6_0_0) (TAB arg7 X7 7 inb_S10x8x128_S1x8x128_7_0_0) (WA arg2 X2 k)

/-- The four sign patterns of every sub-block. -/
def SG : IVec S8x128 32 :=
  LOOK (TAB arg7 X7 8 inb_S10x8x128_S1x8x128_8_0_0) (SPREAD (WB arg2 X2 k))

/-- The sixteen stores of a trip, last first. -/
noncomputable def TRIP : List (View.Piece (Elt F) S1536x2x512 .bf16) :=
    [⟨Rect.unit (s := S1536x2x512) (k0_off5 k 96#32 16#32) S8x2x128.size (k0_off5_inb k 3 1),
        STORE (WB arg2 X2 k) (WD arg3 X3 k) (V3 arg2 arg7 X2 X7 k) (SG arg2 arg7 X2 X7 k) 3 1 1⟩,
      ⟨Rect.unit (s := S1536x2x512) (k0_off4 k 96#32 16#32) S8x2x128.size (k0_off4_inb k 3 1),
        STORE (WB arg2 X2 k) (WD arg3 X3 k) (V3 arg2 arg7 X2 X7 k) (SG arg2 arg7 X2 X7 k) 3 1 0⟩,
      ⟨Rect.unit (s := S1536x2x512) (k0_off5 k 96#32 0#32) S8x2x128.size (k0_off5_inb k 3 0),
        STORE (WB arg2 X2 k) (WD arg3 X3 k) (V3 arg2 arg7 X2 X7 k) (SG arg2 arg7 X2 X7 k) 3 0 1⟩,
      ⟨Rect.unit (s := S1536x2x512) (k0_off4 k 96#32 0#32) S8x2x128.size (k0_off4_inb k 3 0),
        STORE (WB arg2 X2 k) (WD arg3 X3 k) (V3 arg2 arg7 X2 X7 k) (SG arg2 arg7 X2 X7 k) 3 0 0⟩,
      ⟨Rect.unit (s := S1536x2x512) (k0_off5 k 64#32 16#32) S8x2x128.size (k0_off5_inb k 2 1),
        STORE (WB arg2 X2 k) (WD arg3 X3 k) (V2 arg2 arg7 X2 X7 k) (SG arg2 arg7 X2 X7 k) 2 1 1⟩,
      ⟨Rect.unit (s := S1536x2x512) (k0_off4 k 64#32 16#32) S8x2x128.size (k0_off4_inb k 2 1),
        STORE (WB arg2 X2 k) (WD arg3 X3 k) (V2 arg2 arg7 X2 X7 k) (SG arg2 arg7 X2 X7 k) 2 1 0⟩,
      ⟨Rect.unit (s := S1536x2x512) (k0_off5 k 64#32 0#32) S8x2x128.size (k0_off5_inb k 2 0),
        STORE (WB arg2 X2 k) (WD arg3 X3 k) (V2 arg2 arg7 X2 X7 k) (SG arg2 arg7 X2 X7 k) 2 0 1⟩,
      ⟨Rect.unit (s := S1536x2x512) (k0_off4 k 64#32 0#32) S8x2x128.size (k0_off4_inb k 2 0),
        STORE (WB arg2 X2 k) (WD arg3 X3 k) (V2 arg2 arg7 X2 X7 k) (SG arg2 arg7 X2 X7 k) 2 0 0⟩,
      ⟨Rect.unit (s := S1536x2x512) (k0_off5 k 32#32 16#32) S8x2x128.size (k0_off5_inb k 1 1),
        STORE (WB arg2 X2 k) (WD arg3 X3 k) (V1 arg2 arg7 X2 X7 k) (SG arg2 arg7 X2 X7 k) 1 1 1⟩,
      ⟨Rect.unit (s := S1536x2x512) (k0_off4 k 32#32 16#32) S8x2x128.size (k0_off4_inb k 1 1),
        STORE (WB arg2 X2 k) (WD arg3 X3 k) (V1 arg2 arg7 X2 X7 k) (SG arg2 arg7 X2 X7 k) 1 1 0⟩,
      ⟨Rect.unit (s := S1536x2x512) (k0_off5 k 32#32 0#32) S8x2x128.size (k0_off5_inb k 1 0),
        STORE (WB arg2 X2 k) (WD arg3 X3 k) (V1 arg2 arg7 X2 X7 k) (SG arg2 arg7 X2 X7 k) 1 0 1⟩,
      ⟨Rect.unit (s := S1536x2x512) (k0_off4 k 32#32 0#32) S8x2x128.size (k0_off4_inb k 1 0),
        STORE (WB arg2 X2 k) (WD arg3 X3 k) (V1 arg2 arg7 X2 X7 k) (SG arg2 arg7 X2 X7 k) 1 0 0⟩,
      ⟨Rect.unit (s := S1536x2x512) (k0_off5 k 0#32 16#32) S8x2x128.size (k0_off5_inb k 0 1),
        STORE (WB arg2 X2 k) (WD arg3 X3 k) (V0 arg2 arg7 X2 X7 k) (SG arg2 arg7 X2 X7 k) 0 1 1⟩,
      ⟨Rect.unit (s := S1536x2x512) (k0_off4 k 0#32 16#32) S8x2x128.size (k0_off4_inb k 0 1),
        STORE (WB arg2 X2 k) (WD arg3 X3 k) (V0 arg2 arg7 X2 X7 k) (SG arg2 arg7 X2 X7 k) 0 1 0⟩,
      ⟨Rect.unit (s := S1536x2x512) (k0_off5 k 0#32 0#32) S8x2x128.size (k0_off5_inb k 0 0),
        STORE (WB arg2 X2 k) (WD arg3 X3 k) (V0 arg2 arg7 X2 X7 k) (SG arg2 arg7 X2 X7 k) 0 0 1⟩,
      ⟨Rect.unit (s := S1536x2x512) (k0_off4 k 0#32 0#32) S8x2x128.size (k0_off4_inb k 0 0),
        STORE (WB arg2 X2 k) (WD arg3 X3 k) (V0 arg2 arg7 X2 X7 k) (SG arg2 arg7 X2 X7 k) 0 0 0⟩]
end

set_option maxRecDepth 65536 in
theorem tripL_eq {F : FTy → Type} [FloatOps F] (𝒱 : Variants) (c : Dev nD) (bd : Option 𝒱.V) (i : grid0.Coords) (arg1 : Memref sig .tc .vmem S128x3072 .bf16) (harg1 : arg1.IsWhole) (arg2 : Memref sig .tc .vmem S96x8x128 .i32) (harg2 : arg2.IsWhole) (arg3 : Memref sig .tc .vmem S12x512 .f32) (harg3 : arg3.IsWhole) (arg4 : Memref sig .tc .vmem S8x256 .i8) (harg4 : arg4.IsWhole) (arg5 : Memref sig .tc .vmem S128x512 .bf16) (harg5 : arg5.IsWhole) (arg6 : Memref sig .tc .vmem S64x2x3072 .bf16) (harg6 : arg6.IsWhole) (arg7 : Memref sig .tc .vmem S10x8x128 .i32) (harg7 : arg7.IsWhole) (arg8 : Memref sig .tc .vmem S1536x2x512 .bf16) (harg8 : arg8.IsWhole) (X2 : BufTy.Contents (Elt F) arg2.view.ty) (X3 : BufTy.Contents (Elt F) arg3.view.ty) (X7 : BufTy.Contents (Elt F) arg7.view.ty) (k : Fin k0_t1_loop.trips) :
    tripL_k0_t1 (F := F) 𝒱 c bd i arg1 harg1 arg2 harg2 arg3 harg3 arg4 harg4 arg5 harg5 arg6 harg6 arg7 harg7 arg8 harg8 X2 X3 X7 k
      = TRIP arg2 arg3 arg7 X2 X3 X7 k := by
  unfold tripL_k0_t1 trip_k0_t1 TRIP
  dsimp only
  rfl

end Cert.KernelIdeal.Gen
-- ==== Proof.Layout.lean ====
module
public import Idealize.ShloMosaic.Lib.ValueIdxCore
public import Idealize.ShloMosaic.Lib.Pipeline.Value
@[expose] public section
/-!
# Pairs of rows

Rows held two at a time: a rank-3 array [n, 2, m] whose middle coordinate is the parity of a row.
-/
namespace Cert.Layout
open Idealize.ShloMosaic Idealize.ShloMosaic.ValueIdx
variable {α : Type} {n m : ℕ}

theorem cast_drop (x : (⟨3, ![n, 1, m]⟩ : Shape).Idx → α) (h : (⟨3, ![n, 1, m]⟩ : Shape).ShapeCasts ⟨2, ![n, m]⟩)
    (r : Fin n) (c : Fin m) : shapeCast ⟨2, ![n, m]⟩ x h (ix2 r c) = x (ix3 r 0 c) := by
  refine shapeCast_apply x h _ _ ?_
  rw [Shape.rowMajor_val_three, Shape.rowMajor_val_two]
  show (r.val * 1 + 0) * m + c.val = r.val * m + c.val
  simp

theorem cast_add (x : (⟨2, ![n, m]⟩ : Shape).Idx → α) (h : (⟨2, ![n, m]⟩ : Shape).ShapeCasts ⟨3, ![n, 1, m]⟩)
    (r : Fin n) (q : Fin 1) (c : Fin m) : shapeCast ⟨3, ![n, 1, m]⟩ x h (ix3 r q c) = x (ix2 r c) := by
  obtain rfl : q = 0 := Subsingleton.elim _ _
  refine shapeCast_apply x h _ _ ?_
  rw [Shape.rowMajor_val_three, Shape.rowMajor_val_two]
  show r.val * m + c.val = (r.val * 1 + 0) * m + c.val
  simp

theorem cast_dropLead (x : (⟨3, ![1, n, m]⟩ : Shape).Idx → α) (h : (⟨3, ![1, n, m]⟩ : Shape).ShapeCasts ⟨2, ![n, m]⟩)
    (r : Fin n) (c : Fin m) : shapeCast ⟨2, ![n, m]⟩ x h (ix2 r c) = x (ix3 0 r c) := by
  refine shapeCast_apply x h _ _ ?_
  rw [Shape.rowMajor_val_three, Shape.rowMajor_val_two]
  show (0 * n + r.val) * m + c.val = r.val * m + c.val
  simp

theorem cast_addLead (x : (⟨2, ![n, m]⟩ : Shape).Idx → α) (h : (⟨2, ![n, m]⟩ : Shape).ShapeCasts ⟨3, ![1, n, m]⟩)
    (q : Fin 1) (r : Fin n) (c : Fin m) : shapeCast ⟨3, ![1, n, m]⟩ x h (ix3 q r c) = x (ix2 r c) := by
  obtain rfl : q = 0 := Subsingleton.elim _ _
  refine shapeCast_apply x h _ _ ?_
  rw [Shape.rowMajor_val_three, Shape.rowMajor_val_two]
  show r.val * m + c.val = (0 * n + r.val) * m + c.val
  simp

theorem interleave3 (lo hi : (⟨3, ![n, 1, m]⟩ : Shape).Idx → α)
    (h : (⟨3, ![n, 2, m]⟩ : Shape).Bitcasts 16 ⟨3, ![n, 1, m]⟩ 32) (r : Fin n) (p : Fin 2) (c : Fin m) :
    interleaveRows ⟨3, ![n, 2, m]⟩ lo hi h (ix3 r p c) = if p = 0 then lo (ix3 r 0 c) else hi (ix3 r 0 c) := by
  have hrow : (⟨3, ![n, 2, m]⟩ : Shape).row (ix3 r p c) = p.val := rfl
  unfold interleaveRows
  dsimp only
  rw [hrow]
  have e : ∀ j : (⟨3, ![n, 1, m]⟩ : Shape).Idx, (∀ a, (j a).val = ((ix3 r (0 : Fin 1) c : (⟨3, ![n, 1, m]⟩ : Shape).Idx) a).val) → j = ix3 r 0 c :=
    fun j hj => funext fun a => Fin.ext (hj a)
  have hp : p = 0 ∨ p = 1 := by omega
  rcases hp with rfl | rfl
  · rw [if_pos (by decide), if_pos rfl]
    congr 1
    refine e _ fun a => ?_
    match a with
    | ⟨0, _⟩ => rfl
    | ⟨1, _⟩ => show (0 : Fin 2).val / 2 = 0; decide
    | ⟨2, _⟩ => rfl
  · rw [if_neg (by decide), if_neg (by decide)]
    congr 1
    refine e _ fun a => ?_
    match a with
    | ⟨0, _⟩ => rfl
    | ⟨1, _⟩ => show (1 : Fin 2).val / 2 = 0; decide
    | ⟨2, _⟩ => rfl

theorem parity3 (p : Fin 2) (x : (⟨3, ![n, 2, m]⟩ : Shape).Idx → α)
    (h : (⟨3, ![n, 2, m]⟩ : Shape).Bitcasts 16 ⟨3, ![n, 1, m]⟩ 32) (r : Fin n) (q : Fin 1) (c : Fin m) :
    rowsOfParity p ⟨3, ![n, 1, m]⟩ x h (ix3 r q c) = x (ix3 r p c) := by
  obtain rfl : q = 0 := Subsingleton.elim _ _
  unfold rowsOfParity
  congr 1
  funext a
  refine Fin.ext ?_
  match a with
  | ⟨0, _⟩ => rfl
  | ⟨1, _⟩ => show 2 * 0 + p.val = p.val; omega
  | ⟨2, _⟩ => rfl

theorem interleave2 {N : ℕ} (lo hi : (⟨2, ![n, m]⟩ : Shape).Idx → α)
    (h : (⟨2, ![N, m]⟩ : Shape).Bitcasts 16 ⟨2, ![n, m]⟩ 32) (r : Fin N) (c : Fin m) (hr : r.val / 2 < n) :
    interleaveRows ⟨2, ![N, m]⟩ lo hi h (ix2 r c)
      = if r.val % 2 = 0 then lo (ix2 ⟨r.val / 2, hr⟩ c) else hi (ix2 ⟨r.val / 2, hr⟩ c) := by
  have hrow : (⟨2, ![N, m]⟩ : Shape).row (ix2 r c) = r.val := rfl
  unfold interleaveRows
  dsimp only
  rw [hrow]
  have e : ∀ j : (⟨2, ![n, m]⟩ : Shape).Idx, (∀ a, (j a).val = ((ix2 ⟨r.val / 2, hr⟩ c : (⟨2, ![n, m]⟩ : Shape).Idx) a).val) → j = ix2 ⟨r.val / 2, hr⟩ c :=
    fun j hj => funext fun a => Fin.ext (hj a)
  by_cases h0 : r.val % 2 = 0
  · rw [if_pos h0, if_pos h0]
    congr 1
    refine e _ fun a => ?_
    match a with
    | ⟨0, _⟩ => rfl
    | ⟨1, _⟩ => rfl
  · rw [if_neg h0, if_neg h0]
    congr 1
    refine e _ fun a => ?_
    match a with
    | ⟨0, _⟩ => rfl
    | ⟨1, _⟩ => rfl

theorem parity2 {N : ℕ} (p : Fin 2) (x : (⟨2, ![N, m]⟩ : Shape).Idx → α)
    (h : (⟨2, ![N, m]⟩ : Shape).Bitcasts 16 ⟨2, ![n, m]⟩ 32) (r : Fin n) (c : Fin m) (hr : 2 * r.val + p.val < N) :
    rowsOfParity p ⟨2, ![n, m]⟩ x h (ix2 r c) = x (ix2 ⟨2 * r.val + p.val, hr⟩ c) := by
  unfold rowsOfParity
  congr 1
  funext a
  refine Fin.ext ?_
  match a with
  | ⟨0, _⟩ => rfl
  | ⟨1, _⟩ => rfl

end Cert.Layout
-- ==== Proof.Loop.lean ====
module
public import proofs.«01_k».proof.Proof.Tile
public import proofs.«01_k».proof.Proof.Layout
public import Idealize.ShloMosaic.Lib.Pipeline.ValueKit.Geometry
public import Idealize.ShloMosaic.Lib.Ring
@[expose] public section
/-!
# What the forty-eight trips leave in the weight buffer

Trip `t` decodes tile `(t / 4, t % 4)`: its sixteen stores write word rows `128 (t / 4) …` and columns
`128 (t % 4) …` of the weight buffer. All of them together are one function of the place.
-/
namespace Cert.KernelIdeal.Gen
open Idealize.ShloMosaic Idealize.ShloMosaic.TcCoe Idealize.ShloMosaic.ValueIdx Idealize.SL Idealize.SL.RA Idealize.SL.BI Idealize.SL.Sem

section
variable {F : FTy → Type} [FloatOps F]

/-- What one store writes, at a place of its block. -/
theorem STORE_apply (b : IVec S8x128 32) (dq : FVec F S1x128 .f32) (v s : IVec S8x128 32) (p w h : ℕ)
    (r : Fin 8) (q : Fin 2) (l : Fin 128) :
    STORE b dq v s p w h (ix3 r q l) = truncf .bf16 (FIELD b dq v s p w (h + 2 * q.val)) bitsLt_bf16_f32 (ix2 r l) := by
  unfold STORE PIECE
  refine (Layout.interleave3 _ _ _ r q l).trans ?_
  have hq : q = 0 ∨ q = 1 := by omega
  rcases hq with rfl | rfl
  · rw [if_pos rfl]
    exact Layout.cast_add _ _ r 0 l
  · rw [if_neg (by decide)]
    exact Layout.cast_add _ _ r 0 l

variable (arg2 : Memref sig .tc .vmem S96x8x128 .i32) (arg3 : Memref sig .tc .vmem S12x512 .f32)
  (arg7 : Memref sig .tc .vmem S10x8x128 .i32)
  (X2 : arg2.view.ty.Contents (Elt F)) (X3 : arg3.view.ty.Contents (Elt F)) (X7 : arg7.view.ty.Contents (Elt F))

/-- The table bytes of table pair `p`. -/
def VP (k : Fin k0_t1_loop.trips) (p : ℕ) : IVec S8x128 32 :=
  match p with
  | 0 => V0 arg2 arg7 X2 X7 k
  | 1 => V1 arg2 arg7 X2 X7 k
  | 2 => V2 arg2 arg7 X2 X7 k
  | _ => V3 arg2 arg7 X2 X7 k

theorem trips_eq : k0_t1_loop.trips = 48 := by decide

/-- The weight at word row `R`, parity `q`, column `n` of the weight buffer. -/
noncomputable def WAT (R q n : ℕ) (h : R < 1536 ∧ n < 512) : F .bf16 :=
  truncf .bf16
    (FIELD (WB arg2 X2 ⟨4 * (R / 128) + n / 128, by rw [trips_eq]; omega⟩)
      (WD arg3 X3 ⟨4 * (R / 128) + n / 128, by rw [trips_eq]; omega⟩)
      (VP arg2 arg7 X2 X7 ⟨4 * (R / 128) + n / 128, by rw [trips_eq]; omega⟩ (R / 32 % 4))
      (SG arg2 arg7 X2 X7 ⟨4 * (R / 128) + n / 128, by rw [trips_eq]; omega⟩)
      (R / 32 % 4) (R / 16 % 2) (R / 8 % 2 + 2 * q)) bitsLt_bf16_f32
    (ix2 ⟨R % 8, by omega⟩ ⟨n % 128, by omega⟩)

/-- The weight buffer's contents. -/
noncomputable def WBUF (y : S1536x2x512.Idx) : Elt F .bf16 :=
  WAT arg2 arg3 arg7 X2 X3 X7 (y 0).val (y 1).val (y 2).val ⟨(y 0).isLt, (y 2).isLt⟩

/-- One store of trip `k` writes the weights of its place. -/
theorem STORE_WBUF (k : Fin k0_t1_loop.trips) (p w h : ℕ) (hp : p < 4) (hw : w < 2) (hh : h < 2)
    (off : Fin 3 → ℕ) (inb) (ho : off = ![128 * (k.val / 4) + 32 * p + 16 * w + 8 * h, 0, 128 * (k.val % 4)])
    (x : (Rect.unit (s := S1536x2x512) off S8x2x128.size inb).shape.Idx) :
    STORE (WB arg2 X2 k) (WD arg3 X3 k) (VP arg2 arg7 X2 X7 k p) (SG arg2 arg7 X2 X7 k) p w h x
      = WBUF arg2 arg3 arg7 X2 X3 X7 ((Rect.unit (s := S1536x2x512) off S8x2x128.size inb).emb x) := by
  subst ho
  have hk : k.val < 48 := lt_of_lt_of_eq k.isLt trips_eq
  obtain ⟨r, q, l, rfl⟩ : ∃ (r : Fin 8) (q : Fin 2) (l : Fin 128), x = ix3 r q l := ⟨x 0, x 1, x 2, eq_ix3 (n0 := 8) (n1 := 2) (n2 := 128) x⟩
  refine (STORE_apply _ _ _ _ p w h r q l).trans ?_
  unfold WBUF
  have key : ∀ (R Q n : ℕ) (hRn : R < 1536 ∧ n < 512), R = 128 * (k.val / 4) + 32 * p + 16 * w + 8 * h + r.val → Q = q.val →
      n = 128 * (k.val % 4) + l.val →
      truncf .bf16 (FIELD (WB arg2 X2 k) (WD arg3 X3 k) (VP arg2 arg7 X2 X7 k p) (SG arg2 arg7 X2 X7 k) p w (h + 2 * q.val)) bitsLt_bf16_f32 (ix2 r l)
        = WAT arg2 arg3 arg7 X2 X3 X7 R Q n hRn := by
    intro R Q n hRn hR hQ hn
    unfold WAT
    have ek : (⟨4 * (R / 128) + n / 128, by rw [trips_eq]; omega⟩ : Fin k0_t1_loop.trips) = k := Fin.ext (by show 4 * (R / 128) + n / 128 = k.val; omega)
    have e1 : R / 32 % 4 = p := by omega
    have e2 : R / 16 % 2 = w := by omega
    have e3 : R / 8 % 2 = h := by omega
    have e4 : (⟨R % 8, by omega⟩ : Fin 8) = r := Fin.ext (by show R % 8 = r.val; omega)
    have e5 : (⟨n % 128, by omega⟩ : Fin 128) = l := Fin.ext (by show n % 128 = l.val; omega)
    rw [ek, e1, e2, e3, e4, e5, hQ]
  refine key _ _ _ _ ?_ ?_ ?_
  · rw [ValueKit.rect_emb_unit_val]; rfl
  · rw [ValueKit.rect_emb_unit_val]; exact Nat.zero_add _
  · rw [ValueKit.rect_emb_unit_val]; rfl

/-- Every store of a trip writes the weights of its place. -/
theorem TRIP_WBUF (k : Fin k0_t1_loop.trips) (pc : View.Piece (Elt F) S1536x2x512 .bf16)
    (hpc : pc ∈ TRIP arg2 arg3 arg7 X2 X3 X7 k) (x : pc.1.shape.Idx) :
    pc.2 x = WBUF arg2 arg3 arg7 X2 X3 X7 (pc.1.emb x) := by
  unfold TRIP at hpc
  simp only [List.mem_cons, List.not_mem_nil, or_false] at hpc
  rcases hpc with rfl | rfl | rfl | rfl | rfl | rfl | rfl | rfl | rfl | rfl | rfl | rfl | rfl | rfl | rfl | rfl
  · exact STORE_WBUF arg2 arg3 arg7 X2 X3 X7 k 3 1 1 (by decide) (by decide) (by decide) _ (k0_off5_inb k 3 1) ((k0_off5_eq k 3 1).trans (by simp)) x
  · exact STORE_WBUF arg2 arg3 arg7 X2 X3 X7 k 3 1 0 (by decide) (by decide) (by decide) _ (k0_off4_inb k 3 1) ((k0_off4_eq k 3 1).trans (by simp)) x
  · exact STORE_WBUF arg2 arg3 arg7 X2 X3 X7 k 3 0 1 (by decide) (by decide) (by decide) _ (k0_off5_inb k 3 0) ((k0_off5_eq k 3 0).trans (by simp)) x
  · exact STORE_WBUF arg2 arg3 arg7 X2 X3 X7 k 3 0 0 (by decide) (by decide) (by decide) _ (k0_off4_inb k 3 0) ((k0_off4_eq k 3 0).trans (by simp)) x
  · exact STORE_WBUF arg2 arg3 arg7 X2 X3 X7 k 2 1 1 (by decide) (by decide) (by decide) _ (k0_off5_inb k 2 1) ((k0_off5_eq k 2 1).trans (by simp)) x
  · exact STORE_WBUF arg2 arg3 arg7 X2 X3 X7 k 2 1 0 (by decide) (by decide) (by decide) _ (k0_off4_inb k 2 1) ((k0_off4_eq k 2 1).trans (by simp)) x
  · exact STORE_WBUF arg2 arg3 arg7 X2 X3 X7 k 2 0 1 (by decide) (by decide) (by decide) _ (k0_off5_inb k 2 0) ((k0_off5_eq k 2 0).trans (by simp)) x
  · exact STORE_WBUF arg2 arg3 arg7 X2 X3 X7 k 2 0 0 (by decide) (by decide) (by decide) _ (k0_off4_inb k 2 0) ((k0_off4_eq k 2 0).trans (by simp)) x
  · exact STORE_WBUF arg2 arg3 arg7 X2 X3 X7 k 1 1 1 (by decide) (by decide) (by decide) _ (k0_off5_inb k 1 1) ((k0_off5_eq k 1 1).trans (by simp)) x
  · exact STORE_WBUF arg2 arg3 arg7 X2 X3 X7 k 1 1 0 (by decide) (by decide) (by decide) _ (k0_off4_inb k 1 1) ((k0_off4_eq k 1 1).trans (by simp)) x
  · exact STORE_WBUF arg2 arg3 arg7 X2 X3 X7 k 1 0 1 (by decide) (by decide) (by decide) _ (k0_off5_inb k 1 0) ((k0_off5_eq k 1 0).trans (by simp)) x
  · exact STORE_WBUF arg2 arg3 arg7 X2 X3 X7 k 1 0 0 (by decide) (by decide) (by decide) _ (k0_off4_inb k 1 0) ((k0_off4_eq k 1 0).trans (by simp)) x
  · exact STORE_WBUF arg2 arg3 arg7 X2 X3 X7 k 0 1 1 (by decide) (by decide) (by decide) _ (k0_off5_inb k 0 1) ((k0_off5_eq k 0 1).trans (by simp)) x
  · exact STORE_WBUF arg2 arg3 arg7 X2 X3 X7 k 0 1 0 (by decide) (by decide) (by decide) _ (k0_off4_inb k 0 1) ((k0_off4_eq k 0 1).trans (by simp)) x
  · exact STORE_WBUF arg2 arg3 arg7 X2 X3 X7 k 0 0 1 (by decide) (by decide) (by decide) _ (k0_off5_inb k 0 0) ((k0_off5_eq k 0 0).trans (by simp)) x
  · exact STORE_WBUF arg2 arg3 arg7 X2 X3 X7 k 0 0 0 (by decide) (by decide) (by decide) _ (k0_off4_inb k 0 0) ((k0_off4_eq k 0 0).trans (by simp)) x
end

/-- After the trips below `n`, every store wrote the weights of its place. -/
theorem pb_WBUF {F : FTy → Type} [FloatOps F] (𝒱 : Variants) (c : Dev nD) (bd : Option 𝒱.V) (i : grid0.Coords) (arg1 : Memref sig .tc .vmem S128x3072 .bf16) (harg1 : arg1.IsWhole) (arg2 : Memref sig .tc .vmem S96x8x128 .i32) (harg2 : arg2.IsWhole) (arg3 : Memref sig .tc .vmem S12x512 .f32) (harg3 : arg3.IsWhole) (arg4 : Memref sig .tc .vmem S8x256 .i8) (harg4 : arg4.IsWhole) (arg5 : Memref sig .tc .vmem S128x512 .bf16) (harg5 : arg5.IsWhole) (arg6 : Memref sig .tc .vmem S64x2x3072 .bf16) (harg6 : arg6.IsWhole) (arg7 : Memref sig .tc .vmem S10x8x128 .i32) (harg7 : arg7.IsWhole) (arg8 : Memref sig .tc .vmem S1536x2x512 .bf16) (harg8 : arg8.IsWhole) (X2 : BufTy.Contents (Elt F) arg2.view.ty) (X3 : BufTy.Contents (Elt F) arg3.view.ty) (X7 : BufTy.Contents (Elt F) arg7.view.ty) (n : ℕ) :
    n ≤ 48 → ∀ pc ∈ pb_k0_t1 (F := F) 𝒱 c bd i arg1 harg1 arg2 harg2 arg3 harg3 arg4 harg4 arg5 harg5 arg6 harg6 arg7 harg7 arg8 harg8 X2 X3 X7 n, ∀ x : pc.1.shape.Idx, pc.2 x = WBUF arg2 arg3 arg7 X2 X3 X7 (pc.1.emb x) := by
  induction n with
  | zero => intro _ pc hpc; simp [pb_k0_t1] at hpc
  | succ n ih =>
    intro hn pc hpc x
    have e := pb_k0_t1_succ (F := F) 𝒱 c bd i arg1 harg1 arg2 harg2 arg3 harg3 arg4 harg4 arg5 harg5 arg6 harg6 arg7 harg7 arg8 harg8 X2 X3 X7 ⟨n, by rw [trips_eq]; omega⟩
    rw [tripL_eq] at e
    rw [show n + 1 = (⟨n, by rw [trips_eq]; omega⟩ : Fin k0_t1_loop.trips).val + 1 from rfl, e] at hpc
    rcases List.mem_append.mp hpc with h | h
    · exact TRIP_WBUF arg2 arg3 arg7 X2 X3 X7 _ pc h x
    · exact ih (by omega) pc h x

/-- A load from the weight buffer after the loop reads the weights. -/
theorem readCov_WBUF {F : FTy → Type} [FloatOps F] (𝒱 : Variants) (c : Dev nD) (bd : Option 𝒱.V) (i : grid0.Coords) (arg1 : Memref sig .tc .vmem S128x3072 .bf16) (harg1 : arg1.IsWhole) (arg2 : Memref sig .tc .vmem S96x8x128 .i32) (harg2 : arg2.IsWhole) (arg3 : Memref sig .tc .vmem S12x512 .f32) (harg3 : arg3.IsWhole) (arg4 : Memref sig .tc .vmem S8x256 .i8) (harg4 : arg4.IsWhole) (arg5 : Memref sig .tc .vmem S128x512 .bf16) (harg5 : arg5.IsWhole) (arg6 : Memref sig .tc .vmem S64x2x3072 .bf16) (harg6 : arg6.IsWhole) (arg7 : Memref sig .tc .vmem S10x8x128 .i32) (harg7 : arg7.IsWhole) (arg8 : Memref sig .tc .vmem S1536x2x512 .bf16) (harg8 : arg8.IsWhole) (X2 : BufTy.Contents (Elt F) arg2.view.ty) (X3 : BufTy.Contents (Elt F) arg3.view.ty) (X7 : BufTy.Contents (Elt F) arg7.view.ty) (n : ℕ) (hn : n = 48) (B : LoadRect S1536x2x512) :
    arg8.view.readCov (pb_k0_t1 (F := F) 𝒱 c bd i arg1 harg1 arg2 harg2 arg3 harg3 arg4 harg4 arg5 harg5 arg6 harg6 arg7 harg7 arg8 harg8 X2 X3 X7 n) B = fun j => WBUF arg2 arg3 arg7 X2 X3 X7 (B.idx j) := by
  subst hn
  rw [View.readCov_eq_canon']
  funext j
  exact View.canon_apply_of_pieces (WBUF arg2 arg3 arg7 X2 X3 X7) _ (pb_WBUF 𝒱 c bd i arg1 harg1 arg2 harg2 arg3 harg3 arg4 harg4 arg5 harg5 arg6 harg6 arg7 harg7 arg8 harg8 X2 X3 X7 48 le_rfl) _
    (View.cover_of_tiledL (s := S1536x2x512) (pb_k0_t1 (F := F) 𝒱 c bd i arg1 harg1 arg2 harg2 arg3 harg3 arg4 harg4 arg5 harg5 arg6 harg6 arg7 harg7 arg8 harg8 X2 X3 X7 (Scf.trips k0_t1_loop.lb k0_t1_loop.ub k0_t1_loop.st)) S8x2x128.size (by sl_kernel_rfl) (B.idx j))

end Cert.KernelIdeal.Gen
-- ==== Proof.Bits.lean ====
module
public import Idealize.ShloMosaic.Lib.BitcastFour
@[expose] public section
/-!
# Words, bytes and fields

Facts on 32-bit words read as four bytes: what a mask, a shift and the spreading of four 7-bit fields do to the bytes.
-/
namespace Cert.Bits
open Idealize.ShloMosaic

/-- Byte `l` of a word. -/
def byteOf (w : BitVec 32) (l : ℕ) : BitVec 8 := w.extractLsb' (8 * l) 8

theorem byteOf_getLsbD (w : BitVec 32) (l i : ℕ) (hi : i < 8) : (byteOf w l).getLsbD i = w.getLsbD (8 * l + i) := by
  simp [byteOf, hi]

theorem byteOf_and (x y : BitVec 32) (l : ℕ) : byteOf (x &&& y) l = byteOf x l &&& byteOf y l := by
  simp [byteOf, BitVec.extractLsb'_and]

/-- A word all of whose bytes are `b`. -/
theorem byteOf_rep (b : BitVec 32) (hb : b.toNat < 256) (l : ℕ) (hl : l < 4) :
    byteOf (b * 16843009#32) l = b.setWidth 8 := by
  apply BitVec.eq_of_toNat_eq
  have e : (b * 16843009#32).toNat = b.toNat * 16843009 := by
    rw [BitVec.toNat_mul]; simp only [BitVec.toNat_ofNat]; omega
  unfold byteOf
  rw [BitVec.extractLsb'_toNat, e, BitVec.toNat_setWidth, Nat.shiftRight_eq_div_pow]
  obtain rfl | rfl | rfl | rfl : l = 0 ∨ l = 1 ∨ l = 2 ∨ l = 3 := by omega
  · norm_num; omega
  · have h : b.toNat * 16843009 / 2 ^ (8 * 1) = b.toNat * 65793 := by omega
    rw [h]; omega
  · have h : b.toNat * 16843009 / 2 ^ (8 * 2) = b.toNat * 257 := by omega
    rw [h]; omega
  · have h : b.toNat * 16843009 / 2 ^ (8 * 3) = b.toNat := by omega
    rw [h]

theorem shrui_vec (x : BitVec 32) (n : ℕ) (hn : n < 32) : IntOp.shrui .vector x (BitVec.ofNat 32 n) = x >>> n := by
  unfold IntOp.shrui
  have e : (BitVec.ofNat 32 n).toNat = n := by simp; omega
  rw [if_pos (by omega), BitVec.ushiftRight_eq', e]

theorem shli_vec (x : BitVec 32) (n : ℕ) (hn : n < 32) : IntOp.shli .vector x (BitVec.ofNat 32 n) = x <<< n := by
  unfold IntOp.shli
  have e : (BitVec.ofNat 32 n).toNat = n := by simp; omega
  rw [if_pos (by omega), BitVec.shiftLeft_eq', e]

theorem three_getLsbD (w i : ℕ) (hw : 2 ≤ w) : (BitVec.ofNat w 3).getLsbD i = decide (i < 2) := by
  rw [BitVec.getLsbD_ofNat]
  by_cases h : i < 2
  · have : i = 0 ∨ i = 1 := by omega
    rcases this with rfl | rfl
    · simp; omega
    · simp [Nat.testBit]; omega
  · have : Nat.testBit 3 i = false := Nat.testBit_lt_two_pow (lt_of_lt_of_le (by norm_num : 3 < 2 ^ 2) (Nat.pow_le_pow_right (by norm_num) (by omega)))
    simp [this, h]

/-- Two bits inside byte `l` of a word. -/
theorem two_bits (w : BitVec 32) (l s : ℕ) (hs : s ≤ 6) :
    (w >>> (8 * l + s)) &&& 3#32 = ((byteOf w l >>> s) &&& 3#8).setWidth 32 := by
  apply BitVec.eq_of_getLsbD_eq
  intro i hi
  rw [BitVec.getLsbD_and, BitVec.getLsbD_ushiftRight, BitVec.getLsbD_setWidth, BitVec.getLsbD_and,
    BitVec.getLsbD_ushiftRight, three_getLsbD 32 i (by omega), three_getLsbD 8 i (by omega)]
  by_cases h : i < 2
  · rw [byteOf_getLsbD _ _ _ (by omega)]
    have e : 8 * l + s + i = 8 * l + (s + i) := by omega
    simp [h, hi, e]
  · simp [h]

theorem one_getLsbD (w i : ℕ) (hw : 1 ≤ w) : (BitVec.ofNat w 1).getLsbD i = decide (i = 0) := by
  rw [BitVec.getLsbD_ofNat]
  by_cases h : i = 0
  · subst h; simp; omega
  · have : Nat.testBit 1 i = false := Nat.testBit_lt_two_pow (by have := Nat.pow_le_pow_right (n := 2) (by norm_num) (show 1 ≤ i by omega); omega)
    simp [h, this]

/-- The test of one bit. -/
theorem test_bit (x : BitVec 32) (n : ℕ) : ((x >>> n) &&& 1#32 == 1#32) = x.getLsbD n := by
  by_cases h : x.getLsbD n
  · have : (x >>> n) &&& 1#32 = 1#32 := by
      apply BitVec.eq_of_getLsbD_eq
      intro i hi
      rw [BitVec.getLsbD_and, BitVec.getLsbD_ushiftRight, one_getLsbD 32 i (by omega)]
      by_cases h0 : i = 0
      · subst h0; simpa using h
      · simp [h0]
    rw [this, h]; rfl
  · have : (x >>> n) &&& 1#32 = 0#32 := by
      apply BitVec.eq_of_getLsbD_eq
      intro i hi
      rw [BitVec.getLsbD_and, BitVec.getLsbD_ushiftRight, one_getLsbD 32 i (by omega)]
      by_cases h0 : i = 0
      · subst h0; simpa using h
      · simp [h0]
    rw [this]; simp at h; rw [h]; rfl

/-- The top bit of byte `l` after a left shift by `7 - j` is the byte's bit `j`. -/
theorem shl_top (s : BitVec 32) (l j : ℕ) (hl : l < 4) (hj : j ≤ 7) :
    (s <<< (7 - j)).getLsbD (8 * l + 7) = (byteOf s l).getLsbD j := by
  rw [byteOf_getLsbD _ _ _ (by omega), BitVec.getLsbD_shiftLeft]
  have e : 8 * l + 7 - (7 - j) = 8 * l + j := by omega
  rw [e]
  simp [show 8 * l + 7 < 32 by omega]
  omega

/-- Four 7-bit fields before the last step of the spreading. -/
def spread0 (b : BitVec 32) : BitVec 32 := (b &&& 16383#32) ||| ((b <<< 2) &&& 1073676288#32)

theorem spread_add (x : BitVec 32) (hx : x &&& 1073692671#32 = x) :
    x + (x &&& 1065369472#32) = (x &&& 8323199#32) ||| ((x &&& 1065369472#32) <<< 1) := by
  have e1 : x = (x &&& 8323199#32) + (x &&& 1065369472#32) := by
    rw [BitVec.add_eq_or_of_and_eq_zero]
    · rw [← BitVec.and_or_distrib_left]
      conv_lhs => rw [← hx]
      congr 1
    · rw [show (x &&& 8323199#32) &&& (x &&& 1065369472#32) = x &&& (8323199#32 &&& 1065369472#32) from by
        apply BitVec.eq_of_getLsbD_eq; intro i hi; simp only [BitVec.getLsbD_and]
        cases x.getLsbD i <;> simp]
      rw [show (8323199#32 &&& 1065369472#32) = 0#32 from by decide]; simp
  conv_lhs => lhs; rw [e1]
  rw [BitVec.add_assoc, ← BitVec.add_eq_or_of_and_eq_zero]
  · congr 1
    apply BitVec.eq_of_toNat_eq
    simp [Nat.shiftLeft_eq]; omega
  · apply BitVec.eq_of_getLsbD_eq; intro i hi
    simp only [BitVec.getLsbD_and, BitVec.getLsbD_shiftLeft]
    interval_cases i <;> simp

/-- The spreading puts field `l` in byte `l`. -/
theorem spread_byte (b : BitVec 32) (l : ℕ) (hl : l < 4) :
    byteOf (spread0 b + (spread0 b &&& 1065369472#32)) l = ((b >>> (7 * l)) &&& 127#32).setWidth 8 := by
  rw [spread_add]
  · apply BitVec.eq_of_getLsbD_eq
    intro i hi
    rw [byteOf_getLsbD _ _ _ hi]
    unfold spread0
    simp only [BitVec.getLsbD_and, BitVec.getLsbD_or, BitVec.getLsbD_shiftLeft, BitVec.getLsbD_setWidth,
      BitVec.getLsbD_ushiftRight]
    interval_cases l <;> interval_cases i <;> simp
  · unfold spread0
    apply BitVec.eq_of_getLsbD_eq
    intro i hi
    simp only [BitVec.getLsbD_and, BitVec.getLsbD_or, BitVec.getLsbD_shiftLeft]
    interval_cases i <;> simp

/-- A byte read signed, widened and reduced modulo 128. -/
theorem signExtend_mod (b : BitVec 8) : (b.signExtend 32).toNat % 128 = b.toNat % 128 := by
  have h := congrArg BitVec.toNat (andi_signExtend_255 b)
  unfold IntOp.andi at h
  rw [BitVec.toNat_and, BitVec.toNat_setWidth] at h
  have h2 : (b.signExtend 32).toNat &&& (255#32 : BitVec 32).toNat = (b.signExtend 32).toNat % 256 := by
    show _ &&& (2 ^ 8 - 1) = _
    rw [Nat.and_two_pow_sub_one_eq_mod]
  rw [h2] at h
  have := b.isLt
  omega

theorem setWidth_signExtend (b : BitVec 8) : (b.signExtend 32).setWidth 8 = b := by
  apply BitVec.eq_of_getLsbD_eq
  intro i hi
  rw [BitVec.getLsbD_setWidth, BitVec.getLsbD_signExtend]
  simp [hi]; omega

end Cert.Bits
-- ==== Proof.Bytes.lean ====
module
public import proofs.«01_k».proof.Proof.Tile
public import proofs.«01_k».proof.Proof.Bits
public import Idealize.ShloMosaic.Lib.ValueIdxCore
public import Idealize.ShloMosaic.Lib.Pipeline.Value
@[expose] public section
/-!
# The byte-wise steps of a tile, one byte at a time
-/
namespace Cert.KernelIdeal.Gen
open Idealize.ShloMosaic Idealize.ShloMosaic.TcCoe Idealize.ShloMosaic.ValueIdx Cert.Bits

/-- The byte row that is byte `l` of word row `r`. -/
def brow (r : Fin 8) (l : ℕ) (hl : l < 4) : Fin 32 := ⟨4 * r.val + l, by omega⟩

theorem byteOf_up (y : IVec S32x128 8) (r : Fin 8) (c : Fin 128) (l : ℕ) (hl : l < 4) :
    byteOf (bitcast S8x128 32 y bitcasts_S32x128_w8_S8x128_w32 (ix2 r c)) l = y (ix2 (brow r l hl) c) := by
  apply BitVec.eq_of_getLsbD_eq
  intro i hi
  rw [byteOf_getLsbD _ _ _ hi]
  rw [bitcast_8_32_getLsbD_ix2 y bitcasts_S32x128_w8_S8x128_w32 r c (8 * l + i) (by omega) (brow r l hl)
    (by simp only [brow]; omega)]
  congr 1; omega

theorem byteOf_down (x : IVec S8x128 32) (r : Fin 8) (c : Fin 128) (l : ℕ) (hl : l < 4) :
    bitcast S32x128 8 x bitcasts_S8x128_w32_S32x128_w8 (ix2 (brow r l hl) c) = byteOf (x (ix2 r c)) l := by
  apply BitVec.eq_of_getLsbD_eq
  intro i hi
  rw [byteOf_getLsbD _ _ _ hi]
  rw [bitcast_getLsbD x bitcasts_S8x128_w32_S32x128_w8 _ i hi (by decide)]
  have hrow : S32x128.row (ix2 (brow r l hl) c) = 4 * r.val + l := rfl
  have e1 : (S32x128.row (ix2 (brow r l hl) c) * 8 + i) / 32 = r.val := by rw [hrow]; omega
  have e2 : (S32x128.row (ix2 (brow r l hl) c) * 8 + i) % 32 = 8 * l + i := by rw [hrow]; omega
  rw [e2]
  congr 2
  funext a
  match a with
  | ⟨0, _⟩ => exact Fin.ext ((Shape.Bitcasts.srcIdx_row _ _ _ _ ⟨0, Nat.zero_lt_two⟩ rfl).trans e1)
  | ⟨1, _⟩ => exact Fin.ext (Shape.Bitcasts.srcIdx_other _ _ _ _ ⟨1, Nat.one_lt_two⟩ (by show ¬ 1 + 2 = 2; omega))

/-- The lane a byte names in a table of 128 lanes. -/
def lane (b : BitVec 8) : Fin 128 := ⟨b.toNat % 128, Nat.mod_lt _ (by norm_num)⟩

theorem LOOK_byte (t idx : IVec S8x128 32) (r : Fin 8) (c : Fin 128) (l : ℕ) (hl : l < 4) :
    byteOf (LOOK t idx (ix2 r c)) l = byteOf (t (ix2 r (lane (byteOf (idx (ix2 r c)) l)))) l := by
  unfold LOOK
  rw [byteOf_up _ _ _ _ hl, ← byteOf_down t r _ l hl]
  rw [shapeCast_shapeCast]
  show (BitVec.setWidth 8 (dynamicGather (s := S32x128) 1 _ _ (ix2 (brow r l hl) c))) = _
  unfold dynamicGather
  show (BitVec.setWidth 8 (BitVec.signExtend 32 _)) = _
  rw [setWidth_signExtend]
  congr 1
  funext b
  match b with
  | ⟨0, _⟩ => rfl
  | ⟨1, _⟩ =>
    refine Fin.ext ?_
    show (BitVec.signExtend 32 (bitcast S32x128 8 idx bitcasts_S8x128_w32_S32x128_w8 (ix2 (brow r l hl) c))).toNat % 128 = _
    rw [byteOf_down _ _ _ _ hl, signExtend_mod]
    rfl

theorem mask7F_byte (w : BitVec 32) (l : ℕ) (hl : l < 4) : lane (byteOf (w &&& 2139062143#32) l) = lane (byteOf w l) := by
  rw [byteOf_and, show byteOf 2139062143#32 l = 127#8 from by interval_cases l <;> rfl]
  refine Fin.ext ?_
  show (_ &&& _ : BitVec 8).toNat % 128 = (byteOf w l).toNat % 128
  rw [BitVec.toNat_and]
  show (_ &&& (2 ^ 7 - 1)) % 128 = _
  rw [Nat.and_two_pow_sub_one_eq_mod]
  omega

theorem upper_byte (w : BitVec 32) (l : ℕ) (hl : l < 4) :
    byteOf (w &&& 2155905152#32) l ≠ 0#8 ↔ 128 ≤ (byteOf w l).toNat := by
  rw [byteOf_and, show byteOf 2155905152#32 l = 128#8 from by interval_cases l <;> rfl]
  have : ∀ b : BitVec 8, (b &&& 128#8 ≠ 0#8 ↔ 128 ≤ b.toNat) := by decide
  exact this _

/-- The byte of a two-half table look-up. -/
theorem BYTES_byte (lo hi a : IVec S8x128 32) (r : Fin 8) (c : Fin 128) (l : ℕ) (hl : l < 4) :
    byteOf (BYTES lo hi a (ix2 r c)) l
      = if 128 ≤ (byteOf (a (ix2 r c)) l).toNat then byteOf (hi (ix2 r (lane (byteOf (a (ix2 r c)) l)))) l
        else byteOf (lo (ix2 r (lane (byteOf (a (ix2 r c)) l)))) l := by
  unfold BYTES
  rw [byteOf_up _ _ _ _ hl, select_apply, byteOf_down _ _ _ _ hl, byteOf_down _ _ _ _ hl, LOOK_byte _ _ _ _ _ hl,
    LOOK_byte _ _ _ _ _ hl]
  have e : andi a (broadcast S8x128 2139062143#32) (ix2 r c) = a (ix2 r c) &&& 2139062143#32 := rfl
  rw [e, mask7F_byte _ _ hl]
  have hu : UPPER a (ix2 (brow r l hl) c) = BitVec.ofBool (byteOf (a (ix2 r c) &&& 2155905152#32) l != 0#8) := by
    unfold UPPER
    show BitVec.ofBool (bitcast S32x128 8 _ _ (ix2 (brow r l hl) c) != 0#8) = _
    rw [byteOf_down _ _ _ _ hl]
    rfl
  rw [hu]
  by_cases h : byteOf (a (ix2 r c) &&& 2155905152#32) l ≠ 0#8
  · rw [if_pos ((upper_byte _ _ hl).mp h)]
    rw [show (byteOf (a (ix2 r c) &&& 2155905152#32) l != 0#8) = true from by simpa using h]
    rfl
  · rw [if_neg (fun h' => h ((upper_byte _ _ hl).mpr h'))]
    rw [show (byteOf (a (ix2 r c) &&& 2155905152#32) l != 0#8) = false from by simpa using h]
    rfl

/-- Byte `l` of the spread sign word is the `l`-th 7-bit field. -/
theorem SPREAD_byte (b : IVec S8x128 32) (i : S8x128.Idx) (l : ℕ) (hl : l < 4) :
    byteOf (SPREAD b i) l = ((b i >>> (7 * l)) &&& 127#32).setWidth 8 := by
  rw [← spread_byte (b i) l hl]
  rfl

/-- The level number of field `l`: two bits of the table byte. -/
theorem LEVEL_byte (v : IVec S8x128 32) (i : S8x128.Idx) (w l : ℕ) (hw : w < 2) (hl : l < 4) :
    LEVEL (VW w v) (BitVec.ofNat 32 (8 * l + 3 * w)) i = ((byteOf (v i) l >>> (5 * w)) &&& 3#8).setWidth 32 := by
  rw [← two_bits _ _ _ (by omega)]
  show IntOp.andi (IntOp.shrui .vector (VW w v i) (BitVec.ofNat 32 (8 * l + 3 * w))) 3#32 = _
  rw [shrui_vec _ _ (by omega)]
  obtain rfl | rfl : w = 0 ∨ w = 1 := by omega
  · rfl
  · show (IntOp.shrui .vector (v i) 2#32 >>> (8 * l + 3)) &&& 3#32 = _
    rw [shrui_vec _ 2 (by omega), ← BitVec.shiftRight_add]
    congr 2; omega

/-- The sign test of field `l` in position `j`: bit `j` of the sign byte. -/
theorem SIGN_byte (s : IVec S8x128 32) (i : S8x128.Idx) (j l : ℕ) (hj : j < 8) (hl : l < 4) :
    cmpi .eq (andi (shrui (SJ j s) (broadcast S8x128 (BitVec.ofNat 32 (8 * l + 7)))) (broadcast S8x128 1#32))
      (broadcast S8x128 1#32) i = BitVec.ofBool ((byteOf (s i) l).getLsbD j) := by
  show BitVec.ofBool (IntOp.andi (IntOp.shrui .vector (SJ j s i) (BitVec.ofNat 32 (8 * l + 7))) 1#32 == 1#32) = _
  rw [shrui_vec _ _ (by omega)]
  show BitVec.ofBool ((SJ j s i >>> (8 * l + 7)) &&& 1#32 == 1#32) = _
  rw [test_bit]
  congr 1
  unfold SJ
  by_cases h : j < 7
  · rw [if_pos h]
    show (IntOp.shli .vector (s i) (BitVec.ofNat 32 (7 - j))).getLsbD _ = _
    rw [shli_vec _ _ (by omega), shl_top _ _ _ hl (by omega)]
  · obtain rfl : j = 7 := by omega
    rw [if_neg h, byteOf_getLsbD _ _ _ (by omega)]

end Cert.KernelIdeal.Gen
-- ==== Proof.Tables.lean ====
module
public import proofs.«01_k».proof.Proof.Loop
public import proofs.«01_k».proof.Proof.Bytes
public import proofs.«01_k».proof.Proof.Gen.KernelIdeal.Frame
public import Idealize.ShloMosaic.Lib.Pipeline.Value
@[expose] public section
/-!
# The tables

The first grid point stores ten tables. Eight of them hold, byte by byte, the level numbers of two codebook entries
and the row they stand in; the ninth holds each 7-bit sign code with its parity on top.
-/
namespace Cert.KernelIdeal.Gen
open Idealize.ShloMosaic Idealize.ShloMosaic.TcCoe Idealize.ShloMosaic.ValueIdx Idealize.SL Idealize.SL.RA Idealize.SL.BI Idealize.SL.Sem
open Cert.Bits

/-- The level number of a codebook entry. -/
def code (g : BitVec 8) : BitVec 32 := if g = 43#8 then 1#32 else if g = 25#8 then 2#32 else 0#32

/-- The table byte, as a word, of entries `g` and `g'` in row `r`. -/
def tword (g g' : BitVec 8) (r : Fin 8) : BitVec 32 := code g ||| code g' <<< 5 ||| BitVec.ofNat 32 r.val <<< 2

/-- The sign pattern, as a word, of code `c`: the code with its parity in bit 7. -/
def sword (c : Fin 128) : BitVec 32 :=
  let n := BitVec.ofNat 32 c.val
  let a := n ^^^ n.sshiftRight 4
  let b := a ^^^ a.sshiftRight 2
  n ||| ((b ^^^ b.sshiftRight 1) &&& 1#32) <<< 7

theorem pay5_apply {F : FTy → Type} [FloatOps F] (x : Vec F S8x256 .i8) (i : S8x256.Idx) : k0_pay5 (F := F) x i = code (x i) := by
  unfold k0_pay5
  rw [shapeCast_self]
  have key : ∀ g : BitVec 8, (if (BitVec.ofBool (g.setWidth 32 == 43#32)) = 1#1 then 1#32 else
      if (BitVec.ofBool (g.setWidth 32 == 25#32)) = 1#1 then 2#32 else 0#32) = code g := by decide
  exact key (x i)

/-- Entry `(r, l)` of half `h` of table `p`, before its byte is repeated. -/
theorem tab_word (lvl : IVec S8x256 32) (p h : ℕ) (hp : p < 4) (hh : h < 2)
    (h1 : S8x256.Slices ![p, 0] S1x256) (h2 : S8x256.Slices ![p + 4, 0] S1x256) (h3 : S8x256.Slices ![0, 128 * h] S8x128)
    (r : Fin 8) (l : Fin 128) :
    extractStridedSlice S8x128 ![0, 128 * h]
      (ori (broadcastTo S8x256 (shapeCast S1x256 (ori (extractStridedSlice S1x256 ![p, 0] lvl h1)
          (shli (extractStridedSlice S1x256 ![p + 4, 0] lvl h2) (broadcast S1x256 5#32))) shapeCasts_S1x256_S1x256)
          broadcasts_S1x256_S8x256)
        (shli (iota .tc S8x256 32 [0] iota_S8x256_d0_w32) (broadcast S8x256 2#32))) h3 (ix2 r l)
      = (lvl (ix2 ⟨p, by omega⟩ ⟨128 * h + l.val, by omega⟩) ||| lvl (ix2 ⟨p + 4, by omega⟩ ⟨128 * h + l.val, by omega⟩) <<< 5)
        ||| BitVec.ofNat 32 r.val <<< 2 := by
  have e3 : extractStridedSlice S8x128 ![0, 128 * h]
      (ori (broadcastTo S8x256 (shapeCast S1x256 (ori (extractStridedSlice S1x256 ![p, 0] lvl h1)
          (shli (extractStridedSlice S1x256 ![p + 4, 0] lvl h2) (broadcast S1x256 5#32))) shapeCasts_S1x256_S1x256)
          broadcasts_S1x256_S8x256)
        (shli (iota .tc S8x256 32 [0] iota_S8x256_d0_w32) (broadcast S8x256 2#32))) h3 (ix2 r l)
     = (ori (broadcastTo S8x256 (shapeCast S1x256 (ori (extractStridedSlice S1x256 ![p, 0] lvl h1)
          (shli (extractStridedSlice S1x256 ![p + 4, 0] lvl h2) (broadcast S1x256 5#32))) shapeCasts_S1x256_S1x256)
          broadcasts_S1x256_S8x256)
        (shli (iota .tc S8x256 32 [0] iota_S8x256_d0_w32) (broadcast S8x256 2#32))) (ix2 r ⟨128 * h + l.val, by omega⟩) := by
    refine extractStridedSlice_apply _ _ _ _ _ ?_
    intro a
    match a with
    | ⟨0, _⟩ => show r.val = 0 + r.val; omega
    | ⟨1, _⟩ => rfl
  rw [e3, shapeCast_self]
  show (broadcastTo S8x256 _ broadcasts_S1x256_S8x256 (ix2 r ⟨128 * h + l.val, _⟩)) ||| IntOp.shli .vector (iota .tc S8x256 32 [0] iota_S8x256_d0_w32 (ix2 r ⟨128 * h + l.val, _⟩)) 2#32 = _
  rw [iota_single_apply, shli_vec _ _ (by omega)]
  congr 1
  refine (broadcastTo_apply _ _ _ (ix2 (0 : Fin 1) ⟨128 * h + l.val, by omega⟩) ?_).trans ?_
  · intro a
    match a with
    | ⟨0, _⟩ => rfl
    | ⟨1, _⟩ => rfl
  show extractStridedSlice S1x256 ![p, 0] lvl h1 _ ||| IntOp.shli .vector (extractStridedSlice S1x256 ![p + 4, 0] lvl h2 _) 5#32 = _
  rw [shli_vec _ _ (by omega)]
  congr 1
  · refine extractStridedSlice_apply _ _ _ _ _ ?_
    intro a
    match a with
    | ⟨0, _⟩ => rfl
    | ⟨1, _⟩ => show 128 * h + l.val = 0 + (128 * h + l.val); omega
  · congr 1
    refine extractStridedSlice_apply _ _ _ _ _ ?_
    intro a
    match a with
    | ⟨0, _⟩ => rfl
    | ⟨1, _⟩ => show 128 * h + l.val = 0 + (128 * h + l.val); omega

section
variable {F : FTy → Type} [FloatOps F]

/-- The word of table `n` in row `r`, lane `l`. -/
noncomputable def TAT (x : Vec F S8x256 .i8) (n : ℕ) (r : Fin 8) (l : Fin 128) : BitVec 32 :=
  if h : n < 8 then
    tword (x (ix2 ⟨n / 2, by omega⟩ ⟨128 * (n % 2) + l.val, by omega⟩)) (x (ix2 ⟨n / 2 + 4, by omega⟩ ⟨128 * (n % 2) + l.val, by omega⟩)) r
      * 16843009#32
  else if n = 8 then sword l * 16843009#32
  else k0_pay23 (iota Kind.tc S8x128 32 [0] iota_S8x128_d0_w32) (ix3 0 r l)

/-- The contents of the ten tables. -/
noncomputable def TBUF (x : Vec F S8x256 .i8) (y : S10x8x128.Idx) : BitVec 32 := TAT x (y 0).val (y 1) (y 2)

theorem tab0_apply (x : Vec F S8x256 .i8) (q : Fin 1) (r : Fin 8) (l : Fin 128) :
    (k0_pay7 (F := F) x : IVec S1x8x128 32) (ix3 q r l) = TAT x 0 r l := by
  unfold k0_pay7
  refine (Layout.cast_addLead _ _ q r l).trans ?_
  have e := tab_word (k0_pay5 (F := F) x) 0 0 (by decide) (by decide) slices_S8x256_o0_0_S1x256 slices_S8x256_o4_0_S1x256 slices_S8x256_o0_0_S8x128 r l
  rw [pay5_apply, pay5_apply] at e
  exact congrArg (· * 16843009#32) e

theorem tab1_apply (x : Vec F S8x256 .i8) (q : Fin 1) (r : Fin 8) (l : Fin 128) :
    (k0_pay8 (F := F) x : IVec S1x8x128 32) (ix3 q r l) = TAT x 1 r l := by
  unfold k0_pay8
  refine (Layout.cast_addLead _ _ q r l).trans ?_
  have e := tab_word (k0_pay5 (F := F) x) 0 1 (by decide) (by decide) slices_S8x256_o0_0_S1x256 slices_S8x256_o4_0_S1x256 slices_S8x256_o0_128_S8x128 r l
  rw [pay5_apply, pay5_apply] at e
  exact congrArg (· * 16843009#32) e

theorem tab2_apply (x : Vec F S8x256 .i8) (q : Fin 1) (r : Fin 8) (l : Fin 128) :
    (k0_pay12 (iota Kind.tc S8x256 32 [0] iota_S8x256_d0_w32) (k0_pay9 (F := F) x) (k0_pay10 (F := F) x) : IVec S1x8x128 32) (ix3 q r l) = TAT x 2 r l := by
  unfold k0_pay12
  refine (Layout.cast_addLead _ _ q r l).trans ?_
  have e := tab_word (k0_pay5 (F := F) x) 1 0 (by decide) (by decide) slices_S8x256_o1_0_S1x256 slices_S8x256_o5_0_S1x256 slices_S8x256_o0_0_S8x128 r l
  rw [pay5_apply, pay5_apply] at e
  exact congrArg (· * 16843009#32) e

theorem tab3_apply (x : Vec F S8x256 .i8) (q : Fin 1) (r : Fin 8) (l : Fin 128) :
    (k0_pay13 (iota Kind.tc S8x256 32 [0] iota_S8x256_d0_w32) (k0_pay9 (F := F) x) (k0_pay10 (F := F) x) : IVec S1x8x128 32) (ix3 q r l) = TAT x 3 r l := by
  unfold k0_pay13
  refine (Layout.cast_addLead _ _ q r l).trans ?_
  have e := tab_word (k0_pay5 (F := F) x) 1 1 (by decide) (by decide) slices_S8x256_o1_0_S1x256 slices_S8x256_o5_0_S1x256 slices_S8x256_o0_128_S8x128 r l
  rw [pay5_apply, pay5_apply] at e
  exact congrArg (· * 16843009#32) e

theorem tab4_apply (x : Vec F S8x256 .i8) (q : Fin 1) (r : Fin 8) (l : Fin 128) :
    (k0_pay15 (iota Kind.tc S8x256 32 [0] iota_S8x256_d0_w32) (k0_pay5 (F := F) x) : IVec S1x8x128 32) (ix3 q r l) = TAT x 4 r l := by
  unfold k0_pay15
  refine (Layout.cast_addLead _ _ q r l).trans ?_
  have e := tab_word (k0_pay5 (F := F) x) 2 0 (by decide) (by decide) slices_S8x256_o2_0_S1x256 slices_S8x256_o6_0_S1x256 slices_S8x256_o0_0_S8x128 r l
  rw [pay5_apply, pay5_apply] at e
  exact congrArg (· * 16843009#32) e

theorem tab5_apply (x : Vec F S8x256 .i8) (q : Fin 1) (r : Fin 8) (l : Fin 128) :
    (k0_pay17 (k0_pay16 (iota Kind.tc S8x256 32 [0] iota_S8x256_d0_w32) (k0_pay5 (F := F) x)) : IVec S1x8x128 32) (ix3 q r l) = TAT x 5 r l := by
  unfold k0_pay17
  refine (Layout.cast_addLead _ _ q r l).trans ?_
  have e := tab_word (k0_pay5 (F := F) x) 2 1 (by decide) (by decide) slices_S8x256_o2_0_S1x256 slices_S8x256_o6_0_S1x256 slices_S8x256_o0_128_S8x128 r l
  rw [pay5_apply, pay5_apply] at e
  exact congrArg (· * 16843009#32) e

theorem tab6_apply (x : Vec F S8x256 .i8) (q : Fin 1) (r : Fin 8) (l : Fin 128) :
    (k0_pay19 (iota Kind.tc S8x256 32 [0] iota_S8x256_d0_w32) (k0_pay5 (F := F) x) : IVec S1x8x128 32) (ix3 q r l) = TAT x 6 r l := by
  unfold k0_pay19
  refine (Layout.cast_addLead _ _ q r l).trans ?_
  have e := tab_word (k0_pay5 (F := F) x) 3 0 (by decide) (by decide) slices_S8x256_o3_0_S1x256 slices_S8x256_o7_0_S1x256 slices_S8x256_o0_0_S8x128 r l
  rw [pay5_apply, pay5_apply] at e
  exact congrArg (· * 16843009#32) e

theorem tab7_apply (x : Vec F S8x256 .i8) (q : Fin 1) (r : Fin 8) (l : Fin 128) :
    (k0_pay20 (iota Kind.tc S8x256 32 [0] iota_S8x256_d0_w32) (k0_pay5 (F := F) x) : IVec S1x8x128 32) (ix3 q r l) = TAT x 7 r l := by
  unfold k0_pay20
  refine (Layout.cast_addLead _ _ q r l).trans ?_
  have e := tab_word (k0_pay5 (F := F) x) 3 1 (by decide) (by decide) slices_S8x256_o3_0_S1x256 slices_S8x256_o7_0_S1x256 slices_S8x256_o0_128_S8x128 r l
  rw [pay5_apply, pay5_apply] at e
  exact congrArg (· * 16843009#32) e

theorem tab8_apply (x : Vec F S8x256 .i8) (q : Fin 1) (r : Fin 8) (l : Fin 128) :
    (k0_pay22 k0_pay21 : IVec S1x8x128 32) (ix3 q r l) = TAT x 8 r l := by
  unfold k0_pay22
  refine (Layout.cast_addLead _ _ q r l).trans ?_
  have e : iota .tc S8x128 32 [1] iota_S8x128_d1_w32 (ix2 r l) = BitVec.ofNat 32 l.val := iota_single_apply _ _ _ _ _ _
  have key : ∀ n : BitVec 32,
      (IntOp.ori n (IntOp.shli .vector (IntOp.andi (IntOp.xori (IntOp.xori (IntOp.xori n (IntOp.shrsi .vector n 4#32))
        (IntOp.shrsi .vector (IntOp.xori n (IntOp.shrsi .vector n 4#32)) 2#32))
        (IntOp.shrsi .vector (IntOp.xori (IntOp.xori n (IntOp.shrsi .vector n 4#32))
        (IntOp.shrsi .vector (IntOp.xori n (IntOp.shrsi .vector n 4#32)) 2#32)) 1#32)) 1#32) 7#32))
      = n ||| ((((n ^^^ n.sshiftRight 4) ^^^ (n ^^^ n.sshiftRight 4).sshiftRight 2) ^^^ ((n ^^^ n.sshiftRight 4) ^^^ (n ^^^ n.sshiftRight 4).sshiftRight 2).sshiftRight 1) &&& 1#32) <<< 7 := fun n => rfl
  show IntOp.muli (IntOp.ori (iota .tc S8x128 32 [1] iota_S8x128_d1_w32 (ix2 r l)) _) 16843009#32 = _
  have := key (iota .tc S8x128 32 [1] iota_S8x128_d1_w32 (ix2 r l))
  rw [e] at this
  refine (congrArg (· * 16843009#32) ((key (iota .tc S8x128 32 [1] iota_S8x128_d1_w32 (ix2 r l))).trans ?_))
  rw [e]
  rfl

theorem tab9_apply (x : Vec F S8x256 .i8) (q : Fin 1) (r : Fin 8) (l : Fin 128) :
    (k0_pay23 (iota Kind.tc S8x128 32 [0] iota_S8x128_d0_w32) : IVec S1x8x128 32) (ix3 q r l) = TAT x 9 r l := by
  obtain rfl : q = 0 := Subsingleton.elim _ _
  rfl

/-- A store of table `n` writes the table's words. -/
theorem tab_piece (x : Vec F S8x256 .i8) (n : ℕ) (v : IVec S1x8x128 32) (hv : ∀ q r l, v (ix3 q r l) = TAT x n r l)
    (inb : ∀ a, (![n, 0, 0] : Fin 3 → ℕ) a + S1x8x128.size a ≤ S10x8x128.size a)
    (j : (Rect.unit (s := S10x8x128) ![n, 0, 0] S1x8x128.size inb).shape.Idx) :
    v j = TBUF x ((Rect.unit (s := S10x8x128) ![n, 0, 0] S1x8x128.size inb).emb j) := by
  obtain ⟨q, r, l, rfl⟩ : ∃ (q : Fin 1) (r : Fin 8) (l : Fin 128), j = ix3 q r l := ⟨j 0, j 1, j 2, eq_ix3 (n0 := 1) (n1 := 8) (n2 := 128) j⟩
  rw [hv]
  unfold TBUF
  have h0 : ((Rect.unit (s := S10x8x128) ![n, 0, 0] S1x8x128.size inb).emb (ix3 q r l) 0).val = n := by
    rw [ValueKit.rect_emb_unit_val]
    show n + q.val = n
    omega
  have h1 : (Rect.unit (s := S10x8x128) ![n, 0, 0] S1x8x128.size inb).emb (ix3 q r l) 1 = r := Fin.ext (by
    rw [ValueKit.rect_emb_unit_val]; exact Nat.zero_add _)
  have h2 : (Rect.unit (s := S10x8x128) ![n, 0, 0] S1x8x128.size inb).emb (ix3 q r l) 2 = l := Fin.ext (by
    rw [ValueKit.rect_emb_unit_val]; exact Nat.zero_add _)
  rw [h0, h1, h2]
end

/-- The ten stores of the first point write the tables' words. -/
theorem tables_pieces {F : FTy → Type} [FloatOps F] (c : Dev nD) (arg4 : Memref sig .tc .vmem S8x256 .i8) (harg4 : arg4.IsWhole) (x3 : Vec F S8x256 .i8)
    (pc : View.Piece (Elt F) S10x8x128 .i32) (hpc : pc ∈ kernelRun0_A.sl.HS1_10 c arg4 harg4 x3) (j : pc.1.shape.Idx) :
    pc.2 j = TBUF x3 (pc.1.emb j) := by
  have hx : View.readAt (Elt F) arg4.view (Rect.unit (s := S8x256) ![0, 0] S8x256.size inb_S8x256_S8x256_0_0).toLoadRect (harg4.unread x3) = x3 := by
    rw [View.readAt_eq_ld, harg4.read_unread]
    exact View.ld_unit_zero (S := S8x256) (by decide) _ _
  revert hpc
  sl_unfold_words
  rw [hx]
  intro hpc
  simp only [List.mem_cons, List.not_mem_nil, or_false] at hpc
  rcases hpc with rfl | rfl | rfl | rfl | rfl | rfl | rfl | rfl | rfl | rfl
  · exact tab_piece x3 9 _ (tab9_apply x3) inb_S10x8x128_S1x8x128_9_0_0 j
  · exact tab_piece x3 8 _ (tab8_apply x3) inb_S10x8x128_S1x8x128_8_0_0 j
  · exact tab_piece x3 7 _ (tab7_apply x3) inb_S10x8x128_S1x8x128_7_0_0 j
  · exact tab_piece x3 6 _ (tab6_apply x3) inb_S10x8x128_S1x8x128_6_0_0 j
  · exact tab_piece x3 5 _ (tab5_apply x3) inb_S10x8x128_S1x8x128_5_0_0 j
  · exact tab_piece x3 4 _ (tab4_apply x3) inb_S10x8x128_S1x8x128_4_0_0 j
  · exact tab_piece x3 3 _ (tab3_apply x3) inb_S10x8x128_S1x8x128_3_0_0 j
  · exact tab_piece x3 2 _ (tab2_apply x3) inb_S10x8x128_S1x8x128_2_0_0 j
  · exact tab_piece x3 1 _ (tab1_apply x3) inb_S10x8x128_S1x8x128_1_0_0 j
  · exact tab_piece x3 0 _ (tab0_apply x3) inb_S10x8x128_S1x8x128_0_0_0 j

/-- What the first point leaves in the table scratch. -/
theorem sout_tables {F : FTy → Type} [FloatOps F] (c : Dev nD) (i : grid0.Coords) (arg1 : Memref sig .tc .vmem S128x3072 .bf16) (harg1 : arg1.IsWhole) (arg2 : Memref sig .tc .vmem S96x8x128 .i32) (harg2 : arg2.IsWhole) (arg3 : Memref sig .tc .vmem S12x512 .f32) (harg3 : arg3.IsWhole) (arg4 : Memref sig .tc .vmem S8x256 .i8) (harg4 : arg4.IsWhole) (arg5 : Memref sig .tc .vmem S128x512 .bf16) (harg5 : arg5.IsWhole) (arg6 : Memref sig .tc .vmem S64x2x3072 .bf16) (harg6 : arg6.IsWhole) (arg7 : Memref sig .tc .vmem S10x8x128 .i32) (harg7 : arg7.IsWhole) (arg8 : Memref sig .tc .vmem S1536x2x512 .bf16) (harg8 : arg8.IsWhole) (hc0 : cond0_0 i) (x0 : Vec F S128x3072 .bf16) (x1 : Vec F S96x8x128 .i32) (x2 : Vec F S12x512 .f32) (x3 : Vec F S8x256 .i8) :
    sout0_A_1 c i arg1 harg1 arg2 harg2 arg3 harg3 arg4 harg4 arg5 harg5 arg6 harg6 arg7 harg7 arg8 harg8 hc0 x0 x1 x2 x3 = TBUF x3 := by
  unfold sout0_A_1
  rw [View.read_writes_junk_eq_canon]
  funext y
  refine View.canon_apply_of_pieces (TBUF x3) _ ?_ y (scover0_A_1 c i arg1 harg1 arg2 harg2 arg3 harg3 arg4 harg4 arg5 harg5 arg6 harg6 arg7 harg7 arg8 harg8 hc0 x0 x1 x2 x3 y)
  unfold kernelRun0_A
  exact tables_pieces c arg4 harg4 x3

end Cert.KernelIdeal.Gen
-- ==== Proof.Weight.lean ====
module
public import proofs.«01_k».proof.Proof.Tables
public import Idealize.ShloMosaic.Lib.ValueIdx
public import Idealize.ShloMosaic.PureOps.Ideal.Laws
public import Idealize.ShloMosaic.Lib.Pipeline.ValueKit.Tiles
@[expose] public section
/-!
# The weight the decoder writes at one place

Over the reals the decoder's value is the sub-block's scale times the level of the codebook entry the index byte names,
negated when the sign pattern's bit is set.
-/
namespace Cert.KernelIdeal.Gen
open Idealize.ShloMosaic Idealize.ShloMosaic.TcCoe Idealize.ShloMosaic.ValueIdx Idealize.SL Idealize.SL.RA Idealize.SL.BI Idealize.SL.Sem
open Cert.Bits

/-- The level a codebook entry stands for. -/
noncomputable def levelOf (g : BitVec 8) : EReal :=
  if g = 43#8 then Ideal.ofBits .f32 0x422C0000#32 else if g = 25#8 then Ideal.ofBits .f32 0x41C80000#32
  else Ideal.ofBits .f32 0x41000000#32

/-- The scale word `b` and scale `d` give a sub-block. -/
noncomputable def scaleOf (b : BitVec 32) (d : EReal) : EReal :=
  (((IntOp.shrui .vector b 28#32).toInt : ℝ) + Ideal.ofBits .f32 0x3F000000#32) * (d * Ideal.ofBits .f32 0x3E800000#32)

/-- Sign code `l` of word `b`. -/
def codeOf (b : BitVec 32) (l : ℕ) : Fin 128 := lane (((b >>> (7 * l)) &&& 127#32).setWidth 8)

/-- The weight in position `j` of field `l`. -/
noncomputable def weightOf (a b : BitVec 32) (d : EReal) (g : Fin 256 → BitVec 8) (j l : ℕ) : EReal :=
  if (sword (codeOf b l)).getLsbD j then 0 - scaleOf b d * levelOf (g (byteOf a l).toFin)
  else scaleOf b d * levelOf (g (byteOf a l).toFin)

theorem code_cases (g : BitVec 8) : code g = 0#32 ∨ code g = 1#32 ∨ code g = 2#32 := by
  unfold code; split_ifs <;> simp

theorem tword_lt (g g' : BitVec 8) (r : Fin 8) : (tword g g' r).toNat < 256 := by
  unfold tword
  obtain h | h | h := code_cases g <;> obtain h' | h' | h' := code_cases g' <;> rw [h, h'] <;> revert r <;> decide

theorem tword_level (g g' : BitVec 8) (r : Fin 8) (w : ℕ) (hw : w < 2) :
    (((tword g g' r).setWidth 8 >>> (5 * w)) &&& 3#8).setWidth 32 = code (if w = 0 then g else g') := by
  unfold tword
  obtain rfl | rfl : w = 0 ∨ w = 1 := by omega
  · rw [if_pos rfl]
    obtain h | h | h := code_cases g <;> obtain h' | h' | h' := code_cases g' <;> rw [h, h'] <;> revert r <;> decide
  · rw [if_neg (by decide)]
    obtain h | h | h := code_cases g <;> obtain h' | h' | h' := code_cases g' <;> rw [h, h'] <;> revert r <;> decide

theorem sword_lt : ∀ c : Fin 128, (sword c).toNat < 256 := by decide

section
variable (arg2 : Memref sig .tc .vmem S96x8x128 .i32) (arg3 : Memref sig .tc .vmem S12x512 .f32)
  (arg7 : Memref sig .tc .vmem S10x8x128 .i32)
  (X2 : arg2.view.ty.Contents (Elt Ideal)) (X3 : arg3.view.ty.Contents (Elt Ideal)) (X7 : arg7.view.ty.Contents (Elt Ideal))
  (x1 : Vec Ideal S96x8x128 .i32) (x2 : Vec Ideal S12x512 .f32) (x3 : Vec Ideal S8x256 .i8)
  (h2 : ∀ B, View.readAt (Elt Ideal) arg2.view B X2 = fun j => x1 (B.idx j))
  (h3 : ∀ B, View.readAt (Elt Ideal) arg3.view B X3 = fun j => x2 (B.idx j))
  (h7 : ∀ B, View.readAt (Elt Ideal) arg7.view B X7 = fun j => TBUF x3 (B.idx j))

include h7 in
theorem TAB_apply (n : ℕ) (hn : n < 10) (h) (r : Fin 8) (l : Fin 128) : TAB arg7 X7 n h (ix2 r l) = TAT x3 n r l := by
  unfold TAB
  refine (Layout.cast_dropLead _ _ r l).trans ?_
  rw [h7]
  show TAT x3 _ _ _ = _
  have e0 : ((Rect.unit (s := S10x8x128) ![n, 0, 0] S1x8x128.size h).toLoadRect.idx (ix3 (0 : Fin 1) r l) 0).val = n := Rect.idx_unit_val ..
  have e1 : (Rect.unit (s := S10x8x128) ![n, 0, 0] S1x8x128.size h).toLoadRect.idx (ix3 (0 : Fin 1) r l) 1 = r := Fin.ext ((Rect.idx_unit_val ..).trans (Nat.zero_add _))
  have e2 : (Rect.unit (s := S10x8x128) ![n, 0, 0] S1x8x128.size h).toLoadRect.idx (ix3 (0 : Fin 1) r l) 2 = l := Fin.ext ((Rect.idx_unit_val ..).trans (Nat.zero_add _))
  rw [e0, e1, e2]

include h2 in
theorem WA_apply (k : Fin k0_t1_loop.trips) (r : Fin 8) (l : Fin 128) (s : Fin 96) (n : Fin 8)
    (hs : s.val = 8 * (k.val / 4) + r.val) (hn : n.val = 2 * (k.val % 4)) : WA arg2 X2 k (ix2 r l) = x1 (ix3 s n l) := by
  unfold WA
  refine (Layout.cast_drop _ _ r l).trans ?_
  rw [h2]
  show x1 _ = x1 _
  congr 1
  funext a
  refine Fin.ext ?_
  rw [Rect.idx_unit_val]
  refine (congrArg (· + _) (congrFun (k0_off1_eq k) a)).trans ?_
  match a with
  | ⟨0, _⟩ => exact hs.symm
  | ⟨1, _⟩ => exact hn.symm
  | ⟨2, _⟩ => exact Nat.zero_add _

include h2 in
theorem WB_apply (k : Fin k0_t1_loop.trips) (r : Fin 8) (l : Fin 128) (s : Fin 96) (n : Fin 8)
    (hs : s.val = 8 * (k.val / 4) + r.val) (hn : n.val = 2 * (k.val % 4) + 1) : WB arg2 X2 k (ix2 r l) = x1 (ix3 s n l) := by
  unfold WB
  refine (Layout.cast_drop _ _ r l).trans ?_
  rw [h2]
  show x1 _ = x1 _
  congr 1
  funext a
  refine Fin.ext ?_
  rw [Rect.idx_unit_val]
  refine (congrArg (· + _) (congrFun (k0_off2_eq k) a)).trans ?_
  match a with
  | ⟨0, _⟩ => exact hs.symm
  | ⟨1, _⟩ => exact hn.symm
  | ⟨2, _⟩ => exact Nat.zero_add _

include h3 in
theorem WD_apply (k : Fin k0_t1_loop.trips) (l : Fin 128) (s : Fin 12) (n : Fin 512)
    (hs : s.val = k.val / 4) (hn : n.val = 128 * (k.val % 4) + l.val) :
    WD arg3 X3 k (ix2 (0 : Fin 1) l) = x2 (ix2 s n) * Ideal.ofBits .f32 0x3E800000#32 := by
  unfold WD
  rw [h3]
  show x2 _ * Ideal.ofBits .f32 0x3E800000#32 = _
  refine congrArg (fun t => x2 t * Ideal.ofBits .f32 0x3E800000#32) ?_
  funext a
  refine Fin.ext ?_
  rw [Rect.idx_unit_val]
  refine (congrArg (· + _) (congrFun (k0_off3_eq k) a)).trans ?_
  match a with
  | ⟨0, _⟩ => exact hs.symm
  | ⟨1, _⟩ => exact hn.symm

include h7 in
theorem VP_byte (k : Fin k0_t1_loop.trips) (p : ℕ) (hp : p < 4) (r : Fin 8) (c : Fin 128) (l : ℕ) (hl : l < 4) :
    byteOf (VP arg2 arg7 X2 X7 k p (ix2 r c)) l
      = (tword (x3 (ix2 ⟨p, by omega⟩ (byteOf (WA arg2 X2 k (ix2 r c)) l).toFin))
          (x3 (ix2 ⟨p + 4, by omega⟩ (byteOf (WA arg2 X2 k (ix2 r c)) l).toFin)) r).setWidth 8 := by
  have gen : ∀ (lo hi a : IVec S8x128 32) (q : ℕ), q < 4 → (∀ r l, lo (ix2 r l) = TAT x3 (2 * q) r l) → (∀ r l, hi (ix2 r l) = TAT x3 (2 * q + 1) r l) →
      ∀ hq1 hq2, byteOf (BYTES lo hi a (ix2 r c)) l = (tword (x3 (ix2 ⟨q, hq1⟩ (byteOf (a (ix2 r c)) l).toFin))
          (x3 (ix2 ⟨q + 4, hq2⟩ (byteOf (a (ix2 r c)) l).toFin)) r).setWidth 8 := by
    intro lo hi a q hq hlo hhi hq1 hq2
    rw [BYTES_byte _ _ _ _ _ _ hl]
    generalize byteOf (a (ix2 r c)) l = B
    have hB : B.toNat < 256 := B.isLt
    by_cases h : 128 ≤ B.toNat
    · rw [if_pos h, hhi]
      unfold TAT
      rw [dif_pos (by omega), byteOf_rep _ (tword_lt _ _ _) _ hl]
      congr 3
      · refine congrArg₂ ix2 (Fin.ext ?_) (Fin.ext ?_)
        · show (2 * q + 1) / 2 = q; omega
        · show 128 * ((2 * q + 1) % 2) + B.toNat % 128 = B.toNat; omega
      · refine congrArg₂ ix2 (Fin.ext ?_) (Fin.ext ?_)
        · show (2 * q + 1) / 2 + 4 = q + 4; omega
        · show 128 * ((2 * q + 1) % 2) + B.toNat % 128 = B.toNat; omega
    · rw [if_neg h, hlo]
      unfold TAT
      rw [dif_pos (by omega), byteOf_rep _ (tword_lt _ _ _) _ hl]
      congr 3
      · refine congrArg₂ ix2 (Fin.ext ?_) (Fin.ext ?_)
        · show (2 * q) / 2 = q; omega
        · show 128 * ((2 * q) % 2) + B.toNat % 128 = B.toNat; omega
      · refine congrArg₂ ix2 (Fin.ext ?_) (Fin.ext ?_)
        · show (2 * q) / 2 + 4 = q + 4; omega
        · show 128 * ((2 * q) % 2) + B.toNat % 128 = B.toNat; omega
  interval_cases p
  · show byteOf (V0 arg2 arg7 X2 X7 k (ix2 r c)) l = _
    unfold V0
    exact gen _ _ (WA arg2 X2 k) 0 (by decide) (TAB_apply arg7 X7 x3 h7 0 (by decide) _) (TAB_apply arg7 X7 x3 h7 1 (by decide) _) _ _
  · show byteOf (V1 arg2 arg7 X2 X7 k (ix2 r c)) l = _
    unfold V1
    exact gen _ _ (WA arg2 X2 k) 1 (by decide) (TAB_apply arg7 X7 x3 h7 2 (by decide) _) (TAB_apply arg7 X7 x3 h7 3 (by decide) _) _ _
  · show byteOf (V2 arg2 arg7 X2 X7 k (ix2 r c)) l = _
    unfold V2
    exact gen _ _ (WA arg2 X2 k) 2 (by decide) (TAB_apply arg7 X7 x3 h7 4 (by decide) _) (TAB_apply arg7 X7 x3 h7 5 (by decide) _) _ _
  · show byteOf (V3 arg2 arg7 X2 X7 k (ix2 r c)) l = _
    unfold V3
    exact gen _ _ (WA arg2 X2 k) 3 (by decide) (TAB_apply arg7 X7 x3 h7 6 (by decide) _) (TAB_apply arg7 X7 x3 h7 7 (by decide) _) _ _

include h7 in
theorem SG_byte (k : Fin k0_t1_loop.trips) (r : Fin 8) (c : Fin 128) (l : ℕ) (hl : l < 4) :
    byteOf (SG arg2 arg7 X2 X7 k (ix2 r c)) l = (sword (codeOf (WB arg2 X2 k (ix2 r c)) l)).setWidth 8 := by
  unfold SG
  rw [LOOK_byte _ _ _ _ _ hl, TAB_apply arg7 X7 x3 h7 8 (by decide), SPREAD_byte _ _ _ hl]
  show byteOf (sword (codeOf (WB arg2 X2 k (ix2 r c)) l) * 16843009#32) l = _
  exact byteOf_rep _ (sword_lt _) _ hl
end

/-- The scale, at a place. -/
theorem DB_apply (b : IVec S8x128 32) (dq : FVec Ideal S1x128 .f32) (d : EReal) (r : Fin 8) (c : Fin 128)
    (hd : dq (ix2 (0 : Fin 1) c) = d * Ideal.ofBits .f32 0x3E800000#32) : DB b dq (ix2 r c) = scaleOf (b (ix2 r c)) d := by
  unfold DB scaleOf
  show (_ + _) * broadcastTo S8x128 dq broadcasts_S1x128_S8x128 (ix2 r c) = _
  rw [broadcastTo_apply dq broadcasts_S1x128_S8x128 (ix2 r c) (ix2 (0 : Fin 1) c) (by
    intro a
    match a with
    | ⟨0, _⟩ => rfl
    | ⟨1, _⟩ => rfl), hd]
  rfl

/-- The level number chooses the level. -/
theorem MAG_apply (b : IVec S8x128 32) (dq : FVec Ideal S1x128 .f32) (vw : IVec S8x128 32) (sh : BitVec 32) (d : EReal)
    (g : BitVec 8) (r : Fin 8) (c : Fin 128) (hd : dq (ix2 (0 : Fin 1) c) = d * Ideal.ofBits .f32 0x3E800000#32)
    (hg : LEVEL vw sh (ix2 r c) = code g) : MAG b dq vw sh (ix2 r c) = scaleOf (b (ix2 r c)) d * levelOf g := by
  unfold MAG
  show Scalar.select (BitVec.ofBool (LEVEL vw sh (ix2 r c) == 0#32)) (DB b dq (ix2 r c) * Ideal.ofBits .f32 0x41000000#32)
    (Scalar.select (BitVec.ofBool (LEVEL vw sh (ix2 r c) == 2#32)) (DB b dq (ix2 r c) * Ideal.ofBits .f32 0x41C80000#32)
      (DB b dq (ix2 r c) * Ideal.ofBits .f32 0x422C0000#32)) = _
  rw [hg, DB_apply b dq d r c hd]
  unfold code levelOf
  split_ifs <;> rfl

/-- The value of a field, at a place. -/
theorem FIELD_apply (b : IVec S8x128 32) (dq : FVec Ideal S1x128 .f32) (v s : IVec S8x128 32) (p w l : ℕ) (d : EReal)
    (g : BitVec 8) (r : Fin 8) (c : Fin 128) (hp : p < 4) (hw : w < 2) (hl : l < 4)
    (hd : dq (ix2 (0 : Fin 1) c) = d * Ideal.ofBits .f32 0x3E800000#32)
    (hg : ((byteOf (v (ix2 r c)) l >>> (5 * w)) &&& 3#8).setWidth 32 = code g) :
    FIELD b dq v s p w l (ix2 r c)
      = if (byteOf (s (ix2 r c)) l).getLsbD (p + 4 * w) then 0 - scaleOf (b (ix2 r c)) d * levelOf g
        else scaleOf (b (ix2 r c)) d * levelOf g := by
  have hm := MAG_apply b dq (VW w v) (BitVec.ofNat 32 (8 * l + 3 * w)) d g r c hd ((LEVEL_byte v (ix2 r c) w l hw hl).trans hg)
  have hs := SIGN_byte s (ix2 r c) (p + 4 * w) l (by omega) hl
  unfold FIELD VAL
  rw [select_apply, hs]
  show Scalar.select _ (Ideal.ofBits .f32 0x00000000#32 - MAG b dq (VW w v) (BitVec.ofNat 32 (8 * l + 3 * w)) (ix2 r c))
    (MAG b dq (VW w v) (BitVec.ofNat 32 (8 * l + 3 * w)) (ix2 r c)) = _
  rw [hm, Ideal.ofBits_zero_f32]
  cases (byteOf (s (ix2 r c)) l).getLsbD (p + 4 * w) <;> rfl

/-- The weight written at word row `R`, parity `q`, column `n`. -/
theorem WAT_eq (arg2 : Memref sig .tc .vmem S96x8x128 .i32) (arg3 : Memref sig .tc .vmem S12x512 .f32)
    (arg7 : Memref sig .tc .vmem S10x8x128 .i32)
    (X2 : arg2.view.ty.Contents (Elt Ideal)) (X3 : arg3.view.ty.Contents (Elt Ideal)) (X7 : arg7.view.ty.Contents (Elt Ideal))
    (x1 : Vec Ideal S96x8x128 .i32) (x2 : Vec Ideal S12x512 .f32) (x3 : Vec Ideal S8x256 .i8)
    (h2 : ∀ B, View.readAt (Elt Ideal) arg2.view B X2 = fun j => x1 (B.idx j))
    (h3 : ∀ B, View.readAt (Elt Ideal) arg3.view B X3 = fun j => x2 (B.idx j))
    (h7 : ∀ B, View.readAt (Elt Ideal) arg7.view B X7 = fun j => TBUF x3 (B.idx j))
    (R q n : ℕ) (h : R < 1536 ∧ n < 512) (hq : q < 2) :
    WAT arg2 arg3 arg7 X2 X3 X7 R q n h
      = weightOf (x1 (ix3 ⟨8 * (R / 128) + R % 8, by omega⟩ ⟨2 * (n / 128), by omega⟩ ⟨n % 128, by omega⟩))
          (x1 (ix3 ⟨8 * (R / 128) + R % 8, by omega⟩ ⟨2 * (n / 128) + 1, by omega⟩ ⟨n % 128, by omega⟩))
          (x2 (ix2 ⟨R / 128, by omega⟩ ⟨n, h.2⟩)) (fun c => x3 (ix2 ⟨R / 32 % 4 + 4 * (R / 16 % 2), by omega⟩ c))
          (R / 32 % 4 + 4 * (R / 16 % 2)) (R / 8 % 2 + 2 * q) := by
  unfold WAT
  have hk : 4 * (R / 128) + n / 128 < k0_t1_loop.trips := by rw [trips_eq]; omega
  generalize hkk : (⟨4 * (R / 128) + n / 128, hk⟩ : Fin k0_t1_loop.trips) = k
  have kv : k.val = 4 * (R / 128) + n / 128 := by rw [← hkk]
  have hA := WA_apply arg2 X2 x1 h2 k ⟨R % 8, by omega⟩ ⟨n % 128, by omega⟩ ⟨8 * (R / 128) + R % 8, by omega⟩ ⟨2 * (n / 128), by omega⟩
    (by show _ = 8 * (k.val / 4) + R % 8; rw [kv]; show 8 * (R / 128) + R % 8 = _; omega) (by show 2 * (n / 128) = _; omega)
  have hB := WB_apply arg2 X2 x1 h2 k ⟨R % 8, by omega⟩ ⟨n % 128, by omega⟩ ⟨8 * (R / 128) + R % 8, by omega⟩ ⟨2 * (n / 128) + 1, by omega⟩
    (by show _ = 8 * (k.val / 4) + R % 8; rw [kv]; show 8 * (R / 128) + R % 8 = _; omega) (by show 2 * (n / 128) + 1 = _; omega)
  have hD := WD_apply arg3 X3 x2 h3 k ⟨n % 128, by omega⟩ ⟨R / 128, by omega⟩ ⟨n, h.2⟩ (by show R / 128 = _; omega)
    (by show n = 128 * (k.val % 4) + n % 128; omega)
  have hV := VP_byte arg2 arg7 X2 X7 x3 h7 k (R / 32 % 4) (by omega) ⟨R % 8, by omega⟩ ⟨n % 128, by omega⟩ (R / 8 % 2 + 2 * q) (by omega)
  have hS := SG_byte arg2 arg7 X2 X7 x3 h7 k ⟨R % 8, by omega⟩ ⟨n % 128, by omega⟩ (R / 8 % 2 + 2 * q) (by omega)
  have hF := FIELD_apply (WB arg2 X2 k) (WD arg3 X3 k) (VP arg2 arg7 X2 X7 k (R / 32 % 4)) (SG arg2 arg7 X2 X7 k)
    (R / 32 % 4) (R / 16 % 2) (R / 8 % 2 + 2 * q) (x2 (ix2 ⟨R / 128, by omega⟩ ⟨n, h.2⟩)) _ ⟨R % 8, by omega⟩ ⟨n % 128, by omega⟩
    (by omega) (by omega) (by omega) hD (by rw [hV]; exact tword_level _ _ _ _ (by omega))
  refine hF.trans ?_
  rw [hS, hB, hA]
  unfold weightOf
  have hj : R / 32 % 4 + 4 * (R / 16 % 2) < 8 := by omega
  rw [BitVec.getLsbD_setWidth]
  simp only [hj, decide_true, Bool.true_and]
  have hg : ∀ c : Fin 256, (if R / 16 % 2 = 0 then x3 (ix2 ⟨R / 32 % 4, by omega⟩ c) else x3 (ix2 ⟨R / 32 % 4 + 4, by omega⟩ c))
      = x3 (ix2 ⟨R / 32 % 4 + 4 * (R / 16 % 2), by omega⟩ c) := by
    intro c
    by_cases h0 : R / 16 % 2 = 0
    · rw [if_pos h0]; congr 3; omega
    · rw [if_neg h0]; congr 3; omega
  rw [hg]

end Cert.KernelIdeal.Gen
-- ==== Proof.Ref.lean ====
module
public import proofs.«01_k».proof.Proof.Gen.ReferenceIdeal.Read
public import proofs.«01_k».proof.Proof.Bits
@[expose] public section
/-!
# The reference's result

Read one operation at a time: the weight at row `k`, column `n` is the sub-block's scale times the codebook's entry,
negated where the sign pattern's bit is set; the result is the sum over the rows.
-/
namespace Cert.ReferenceIdeal.Read
open Cert.ReferenceIdeal Cert.ReferenceIdeal.Gen Idealize.ShloMosaic Idealize.ShloMosaic.TcCoe Idealize.ShloMosaic.ValueIdx
open Cert.Bits
open scoped BigOperators

theorem shrui_h (x : BitVec 32) (n : ℕ) (hn : n < 32) : IntOp.shrui .host x (BitVec.ofNat 32 n) = x >>> n := by
  rw [shrui_host]; exact shrui_vec x n hn

theorem shli_h (x : BitVec 32) (n : ℕ) (hn : n < 32) : IntOp.shli .host x (BitVec.ofNat 32 n) = x <<< n := by
  rw [shli_host]; exact shli_vec x n hn

/-- The sign pattern of a code: its parity above it. -/
def patternOf (code : BitVec 32) : BitVec 32 := code ||| ((IntOp.ctpop code &&& 1#32) <<< 7)

/-- The scale of a sub-block, as the reference forms it. -/
noncomputable def refScale (b : BitVec 32) (d : EReal) : EReal :=
  (d * (Ideal.ofBits .f32 0x3F000000#32 + ((b >>> 28).toInt : ℝ))) * Ideal.ofBits .f32 0x3E800000#32

/-- The weight, as the reference forms it. -/
noncomputable def refWeight (a b : BitVec 32) (d : EReal) (g : Fin 256 → BitVec 8) (j l : ℕ) : EReal :=
  let mag := refScale b d * (((g (byteOf a l).toFin).setWidth 32).toInt : ℝ)
  if (patternOf ((b >>> (7 * l)) &&& 127#32)).getLsbD j then -mag else mag

section
variable (x0 : Vec Ideal S1x128x3072 .bf16) (x1 : Vec Ideal S96x8192x2 .i32) (x2 : Vec Ideal S12x8192 .f32) (x3 : Vec Ideal S256x8 .i8)

theorem word_a (s : Fin 96) (n : Fin 8192) : val_main_v1 (F := Ideal) x1 (ix2 s n) = x1 (ix3 s n (0 : Fin 2)) := by
  refine (val_main_v1_apply x1 _).trans ((val_main_v0_apply x1 _).trans (congrArg x1 ?_))
  funext a
  refine Fin.ext ?_
  match a with
  | ⟨0, _⟩ => show (s.val * 8192 + n.val) / 8192 = s.val; omega
  | ⟨1, _⟩ => show (s.val * 8192 + n.val) / 1 % 8192 = n.val; omega
  | ⟨2, _⟩ => rfl

theorem word_b (s : Fin 96) (n : Fin 8192) : val_main_v3 (F := Ideal) x1 (ix2 s n) = x1 (ix3 s n (1 : Fin 2)) := by
  refine (val_main_v3_apply x1 _).trans ((val_main_v2_apply x1 _).trans (congrArg x1 ?_))
  funext a
  refine Fin.ext ?_
  match a with
  | ⟨0, _⟩ => show (s.val * 8192 + n.val) / 8192 = s.val; omega
  | ⟨1, _⟩ => show (s.val * 8192 + n.val) / 1 % 8192 = n.val; omega
  | ⟨2, _⟩ => rfl

theorem sc_apply (s : Fin 96) (n : Fin 8192) :
    val_main_v7 (F := Ideal) x1 (ix2 s n) = (((x1 (ix3 s n (1 : Fin 2)) >>> 28).toInt : ℝ) : EReal) := by
  show (((val_main_v5 (F := Ideal) x1 (ix2 s n)).toInt : ℝ) : EReal) = _
  rw [val_main_v5_apply, word_b, val_main_v4_apply]
  show (((IntOp.shrui .host (x1 (ix3 s n (1 : Fin 2))) (BitVec.ofNat 32 28)).toInt : ℝ) : EReal) = _
  rw [shrui_h _ 28 (by norm_num)]

theorem db_apply (s : Fin 96) (n : Fin 8192) : val_main_v16 (F := Ideal) x1 x2 (ix2 s n)
    = refScale (x1 (ix3 s n (1 : Fin 2))) (x2 (ix2 (⟨s.val / 8, by omega⟩ : Fin 12) n)) := by
  have e16 : idx_main_v16 (ix2 s n) = ix3 (⟨s.val / 8, by omega⟩ : Fin 12) (⟨s.val % 8, by omega⟩ : Fin 8) n := by
    funext a
    refine Fin.ext ?_
    match a with
    | ⟨0, _⟩ => show (s.val * 8192 + n.val) / 65536 = s.val / 8; omega
    | ⟨1, _⟩ => show (s.val * 8192 + n.val) / 8192 % 8 = s.val % 8; omega
    | ⟨2, _⟩ => show (s.val * 8192 + n.val) % 8192 = n.val; omega
  have e8 : idx_main_v8 (ix3 (⟨s.val / 8, by omega⟩ : Fin 12) (⟨s.val % 8, by omega⟩ : Fin 8) n) = ix2 s n := by
    funext a
    refine Fin.ext ?_
    match a with
    | ⟨0, _⟩ => show ((s.val / 8 * 8 + s.val % 8) * 8192 + n.val) / 8192 = s.val; omega
    | ⟨1, _⟩ => show ((s.val / 8 * 8 + s.val % 8) * 8192 + n.val) % 8192 = n.val; omega
  have e12 : idx_main_v9 (idx_main_v12 (ix3 (⟨s.val / 8, by omega⟩ : Fin 12) (⟨s.val % 8, by omega⟩ : Fin 8) n)) = ix2 (⟨s.val / 8, by omega⟩ : Fin 12) n := by
    funext a
    refine Fin.ext ?_
    match a with
    | ⟨0, _⟩ => rfl
    | ⟨1, _⟩ => rfl
  rw [val_main_v16_apply, e16, val_main_v15_apply, val_main_v13_apply, val_main_v12_apply, val_main_v9_apply, e12,
    val_main_v11_apply, val_main_v10_apply, val_main_v8_apply, e8, sc_apply, val_main_v14_apply]
  rfl

theorem idx_word (s : Fin 96) (l : Fin 4) (n : Fin 8192) :
    val_main_v26 (F := Ideal) x1 (ix3 s l n) = (x1 (ix3 s n (0 : Fin 2)) >>> (8 * l.val)) &&& 255#32 := by
  have e : idx_main_v19 (idx_main_v22 (ix3 s l n)) = ix2 s n := by
    funext a
    match a with
    | ⟨0, _⟩ => rfl
    | ⟨1, _⟩ => rfl
  rw [val_main_v26_apply, val_main_v24_apply, val_main_v22_apply, val_main_v19_apply, e, word_a, val_main_v25_apply, val_main_v23_apply,
    val_main_v21_apply, val_main_v20_apply, val_main_v18_apply, val_main_v17_apply]
  show (IntOp.shrui .host (x1 (ix3 s n (0 : Fin 2))) (8#32 * BitVec.ofNat 32 l.val)) &&& 255#32 = _
  rw [show 8#32 * BitVec.ofNat 32 l.val = BitVec.ofNat 32 (8 * l.val) from by clear * -; revert l; decide, shrui_h _ _ (by omega)]

theorem code_word (s : Fin 96) (l : Fin 4) (n : Fin 8192) :
    val_main_v34 (F := Ideal) x1 (ix3 s l n) = (x1 (ix3 s n (1 : Fin 2)) >>> (7 * l.val)) &&& 127#32 := by
  have e : idx_main_v27 (idx_main_v30 (ix3 s l n)) = ix2 s n := by
    funext a
    match a with
    | ⟨0, _⟩ => rfl
    | ⟨1, _⟩ => rfl
  rw [val_main_v34_apply, val_main_v32_apply, val_main_v30_apply, val_main_v27_apply, e, word_b, val_main_v33_apply, val_main_v31_apply,
    val_main_v29_apply, val_main_v28_apply, val_main_v18_apply, val_main_v17_apply]
  show (IntOp.shrui .host (x1 (ix3 s n (1 : Fin 2))) (7#32 * BitVec.ofNat 32 l.val)) &&& 127#32 = _
  rw [show 7#32 * BitVec.ofNat 32 l.val = BitVec.ofNat 32 (7 * l.val) from by clear * -; revert l; decide, shrui_h _ _ (by omega)]

theorem pattern_word (s : Fin 96) (l : Fin 4) (n : Fin 8192) :
    val_main_v40 (F := Ideal) x1 (ix3 s l n) = patternOf ((x1 (ix3 s n (1 : Fin 2)) >>> (7 * l.val)) &&& 127#32) := by
  rw [val_main_v40_apply, val_main_v39_apply, val_main_v37_apply, val_main_v35_apply, code_word, val_main_v38_apply, val_main_v36_apply]
  show _ ||| IntOp.shli .host (IntOp.ctpop _ &&& 1#32) (BitVec.ofNat 32 7) = _
  rw [shli_h _ 7 (by norm_num)]
  rfl

theorem neg_word (s : Fin 96) (l : Fin 4) (j : Fin 8) (n : Fin 8192) : val_main_v54 (F := Ideal) x1 (ix4 s l j n)
    = BitVec.ofBool ((patternOf ((x1 (ix3 s n (1 : Fin 2)) >>> (7 * l.val)) &&& 127#32)).getLsbD j.val) := by
  have e : idx_main_v47 (idx_main_v48 (ix4 s l j n)) = ix3 s l n := by
    funext a
    match a with
    | ⟨0, _⟩ => rfl
    | ⟨1, _⟩ => rfl
    | ⟨2, _⟩ => rfl
  rw [val_main_v54_apply, val_main_v52_apply, val_main_v50_apply, val_main_v48_apply, val_main_v47_apply, e, pattern_word,
    val_main_v49_apply, val_main_v46_apply, val_main_v45_apply, val_main_v51_apply, val_main_v53_apply]
  show BitVec.ofBool ((IntOp.shrui .host _ (BitVec.ofNat 32 j.val) &&& 1#32) == 1#32) = _
  rw [shrui_h _ _ (by omega), test_bit]

theorem byte_clip (a : BitVec 32) (l : ℕ) : min ((a >>> (8 * l)) &&& 255#32).toInt.toNat 255 = (byteOf a l).toNat := by
  have h1 : ((a >>> (8 * l)) &&& 255#32).toNat = (byteOf a l).toNat := by
    unfold byteOf
    rw [BitVec.toNat_and, BitVec.toNat_ushiftRight, BitVec.extractLsb'_toNat]
    exact Nat.and_two_pow_sub_one_eq_mod _ 8
  have h2 := (byteOf a l).isLt
  rw [BitVec.toInt_eq_toNat_of_lt (by rw [h1]; omega), h1]
  omega

/-- The codebook's row the index names. -/
theorem take_apply (s : Fin 96) (l : Fin 4) (n : Fin 8192) (j : Fin 8) : val_main_v43 (F := Ideal) x1 x3 (ix4 s l n j)
    = (x3 (ix2 (byteOf (x1 (ix3 s n (0 : Fin 2))) l.val).toFin j)).setWidth 32 := by
  unfold val_main_v43 Host.gather
  refine congrArg (fun t => (x3 t).setWidth 32) ?_
  have hsi : GatherDims.siIdx gather_S256x8_S96x4x8192x1_S96x4x8192x8_3_0_n_n_0_3_18 (ix4 s l n j)
      ⟨List.idxOf (0 : Fin 2) gather_S256x8_S96x4x8192x1_S96x4x8192x8_3_0_n_n_0_3_18.startIndexMap,
        List.idxOf_lt_length_iff.2 (List.mem_singleton.mpr rfl)⟩ = ix4 s l n (0 : Fin 1) := by
    funext b
    refine Fin.ext ?_
    match b with
    | ⟨0, _⟩ => rfl
    | ⟨1, _⟩ => rfl
    | ⟨2, _⟩ => rfl
    | ⟨3, _⟩ => rfl
  have hidx : val_main_call0_v0 (F := Ideal) x1 (ix4 s l n (0 : Fin 1)) = (x1 (ix3 s n (0 : Fin 2)) >>> (8 * l.val)) &&& 255#32 := by
    rw [val_main_call0_v0_apply, val_main_v42_apply]
    refine Eq.trans (congrArg (val_main_v26 (F := Ideal) x1) ?_) (idx_word x1 s l n)
    funext a
    match a with
    | ⟨0, _⟩ => rfl
    | ⟨1, _⟩ => rfl
    | ⟨2, _⟩ => rfl
  funext a
  refine Fin.ext ?_
  show GatherDims.start gather_S256x8_S96x4x8192x1_S96x4x8192x8_3_0_n_n_0_3_18 (ix4 s l n j) (val_main_call0_v0 (F := Ideal) x1) a
    + GatherDims.batchCoord gather_S256x8_S96x4x8192x1_S96x4x8192x8_3_0_n_n_0_3_18 (ix4 s l n j) a
    + GatherDims.offCoord gather_S256x8_S96x4x8192x1_S96x4x8192x8_3_0_n_n_0_3_18 (ix4 s l n j) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine (dif_pos (show (0 : Fin 2) ∈ gather_S256x8_S96x4x8192x1_S96x4x8192x8_3_0_n_n_0_3_18.startIndexMap from List.mem_singleton.mpr rfl)).trans ?_
    refine Eq.trans (congrArg (fun t => min (val_main_call0_v0 (F := Ideal) x1 t).toInt.toNat 255) hsi) ?_
    show min (val_main_call0_v0 (F := Ideal) x1 (ix4 s l n (0 : Fin 1))).toInt.toNat 255 = _
    rw [hidx, byte_clip]
    rfl
  | ⟨1, _⟩ =>
    unfold GatherDims.start
    refine (congrArg₂ (· + ·) (dif_neg (show (1 : Fin 2) ∉ gather_S256x8_S96x4x8192x1_S96x4x8192x8_3_0_n_n_0_3_18.startIndexMap from by decide))
      rfl).trans ?_
    exact Nat.zero_add _

/-- The weight at row `k`, column `n`, whatever the row's position in its sub-block. -/
theorem weight_apply (s : Fin 96) (l : Fin 4) (j : Fin 8) (n : Fin 8192) : val_main_v60 (F := Ideal) x1 x2 x3 (ix4 s l j n)
    = refWeight (x1 (ix3 s n (0 : Fin 2))) (x1 (ix3 s n (1 : Fin 2))) (x2 (ix2 (⟨s.val / 8, by omega⟩ : Fin 12) n))
        (fun e => x3 (ix2 e j)) j.val l.val := by
  have e55 : idx_main_v55 (idx_main_v57 (ix4 s l j n)) = ix2 s n := by
    funext a
    match a with
    | ⟨0, _⟩ => rfl
    | ⟨1, _⟩ => rfl
  have e44 : idx_main_v44 (ix4 s l j n) = ix4 s l n j := by
    funext a
    match a with
    | ⟨0, _⟩ => rfl
    | ⟨1, _⟩ => rfl
    | ⟨2, _⟩ => rfl
    | ⟨3, _⟩ => rfl
  have h58 : val_main_v58 (F := Ideal) x1 x2 x3 (ix4 s l j n) = refScale (x1 (ix3 s n (1 : Fin 2))) (x2 (ix2 (⟨s.val / 8, by omega⟩ : Fin 12) n))
      * ((((x3 (ix2 (byteOf (x1 (ix3 s n (0 : Fin 2))) l.val).toFin j)).setWidth 32).toInt : ℝ) : EReal) := by
    rw [val_main_v58_apply, val_main_v57_apply, val_main_v55_apply, e55, db_apply, val_main_v56_apply, val_main_v44_apply, e44, take_apply]
    rfl
  rw [val_main_v60_apply, neg_word, val_main_v59_apply, h58]
  unfold refWeight
  cases (patternOf ((x1 (ix3 s n (1 : Fin 2)) >>> (7 * l.val)) &&& 127#32)).getLsbD j.val <;> rfl

/-- The weight at row `k`, column `N`, in the reference's order of operations. -/
noncomputable def refFull (k : Fin 3072) (N : Fin 8192) : EReal :=
  refWeight (x1 (ix3 (⟨k.val / 32, by omega⟩ : Fin 96) N (0 : Fin 2))) (x1 (ix3 (⟨k.val / 32, by omega⟩ : Fin 96) N (1 : Fin 2)))
    (x2 (ix2 (⟨k.val / 256, by omega⟩ : Fin 12) N)) (fun e => x3 (ix2 e (⟨k.val % 8, by omega⟩ : Fin 8))) (k.val % 8) (k.val / 8 % 4)

theorem w_apply (k : Fin 3072) (N : Fin 8192) : val_main_v62 (F := Ideal) x1 x2 x3 (ix2 k N) = refFull x1 x2 x3 k N := by
  have e : idx_main_v62 (ix2 k N) = ix4 (⟨k.val / 32, by omega⟩ : Fin 96) (⟨k.val / 8 % 4, by omega⟩ : Fin 4) (⟨k.val % 8, by omega⟩ : Fin 8) N := by
    funext a
    refine Fin.ext ?_
    match a with
    | ⟨0, _⟩ => show (k.val * 8192 + N.val) / 262144 = k.val / 32; omega
    | ⟨1, _⟩ => show (k.val * 8192 + N.val) / 65536 % 4 = k.val / 8 % 4; omega
    | ⟨2, _⟩ => show (k.val * 8192 + N.val) / 8192 % 8 = k.val % 8; omega
    | ⟨3, _⟩ => show (k.val * 8192 + N.val) % 8192 = N.val; omega
  rw [val_main_v62_apply, e, val_main_v61_apply]
  refine (weight_apply x1 x2 x3 _ _ _ _).trans ?_
  unfold refFull
  refine congrArg (fun t : Fin 12 => refWeight _ _ (x2 (ix2 t N)) _ _ _) (Fin.ext ?_)
  show k.val / 32 / 8 = k.val / 256
  omega

theorem x_apply (r : Fin 128) (k : Fin 3072) : val_main_v63 (F := Ideal) x0 (ix2 r k) = x0 (ix3 (0 : Fin 1) r k) := by
  refine (val_main_v63_apply x0 _).trans (congrArg x0 ?_)
  funext a
  refine Fin.ext ?_
  match a with
  | ⟨0, _⟩ => rfl
  | ⟨1, _⟩ => show (r.val * 3072 + k.val) / 3072 % 128 = r.val; omega
  | ⟨2, _⟩ => show (r.val * 3072 + k.val) % 3072 = k.val; omega

/-- The reference's result: the sum over the rows of the activation times the weight. -/
theorem ref_apply (r : Fin 128) (N : Fin 8192) : val_main_v65 (F := Ideal) x0 x1 x2 x3 (ix2 r N)
    = ∑ k : Fin 3072, x0 (ix3 (0 : Fin 1) r k) * refFull x1 x2 x3 k N := by
  rw [val_main_v65_apply]
  refine (val_main_v64_apply x0 x1 x2 x3 _).trans (Finset.sum_congr rfl fun k _ => ?_)
  have el : lidx_main_v64 (ix2 r N) k = ix2 r k := by
    funext a
    match a with
    | ⟨0, _⟩ => rfl
    | ⟨1, _⟩ => rfl
  have er : ridx_main_v64 (ix2 r N) k = ix2 k N := by
    funext a
    match a with
    | ⟨0, _⟩ => rfl
    | ⟨1, _⟩ => rfl
  rw [el, er, w_apply, x_apply]
end
end Cert.ReferenceIdeal.Read
-- ==== Proof.Levels.lean ====
module
public import proofs.«01_k».proof.Proof.Weight
public import proofs.«01_k».proof.Proof.Ref
public import proofs.«01_k».proof.Pre_levels
@[expose] public section
/-!
# The two readings of one weight

The kernel's decoder and the reference agree on a weight whenever the codebook's entry is one of the three levels 8, 25, 43:
the decoder's table of parities is the sign pattern's parity bit, and the factors are the same in another order.
-/
namespace Cert.KernelIdeal.Gen
open Idealize.ShloMosaic Idealize.ShloMosaic.TcCoe Idealize.ShloMosaic.ValueIdx
open Cert.Bits Cert.ReferenceIdeal.Read

/-- The decoder's sign word has the pattern's bits. -/
theorem sword_pattern : ∀ c : Fin 128, ∀ j : Fin 8, (sword c).getLsbD j.val = (patternOf (BitVec.ofNat 32 c.val)).getLsbD j.val := by
  decide +kernel

theorem code_eq (b : BitVec 32) (l : ℕ) : BitVec.ofNat 32 (codeOf b l).val = (b >>> (7 * l)) &&& 127#32 := by
  have h : ((b >>> (7 * l)) &&& 127#32).toNat < 128 := by
    rw [BitVec.toNat_and]
    exact lt_of_le_of_lt Nat.and_le_right (by decide)
  refine BitVec.eq_of_toNat_eq ?_
  unfold codeOf lane
  rw [BitVec.toNat_ofNat]
  show (((b >>> (7 * l)) &&& 127#32).setWidth 8).toNat % 128 % 2 ^ 32 = _
  rw [BitVec.toNat_setWidth]
  omega

theorem f32_8 : Ideal.ofBits .f32 0x41000000#32 = ((8 : ℝ) : EReal) := by
  simp [Ideal.ofBits, Ideal.ieee]; rw [← EReal.coe_mul]; norm_num
theorem f32_25 : Ideal.ofBits .f32 0x41C80000#32 = ((25 : ℝ) : EReal) := by
  simp [Ideal.ofBits, Ideal.ieee]; rw [← EReal.coe_mul]; norm_num
theorem f32_43 : Ideal.ofBits .f32 0x422C0000#32 = ((43 : ℝ) : EReal) := by
  simp [Ideal.ofBits, Ideal.ieee]; rw [← EReal.coe_mul]; norm_num

/-- A codebook entry that is one of the three levels stands for its own value. -/
theorem level_value (g : BitVec 8) (h : g = 8#8 ∨ g = 25#8 ∨ g = 43#8) : levelOf g = (((g.setWidth 32).toInt : ℝ) : EReal) := by
  unfold levelOf
  rw [f32_8, f32_25, f32_43]
  obtain rfl | rfl | rfl := h
  · rw [if_neg (by decide), if_neg (by decide), show ((8#8 : BitVec 8).setWidth 32).toInt = 8 from by decide]; norm_num
  · rw [if_neg (by decide), if_pos rfl, show ((25#8 : BitVec 8).setWidth 32).toInt = 25 from by decide]; norm_num
  · rw [if_pos rfl, show ((43#8 : BitVec 8).setWidth 32).toInt = 43 from by decide]; norm_num

theorem scale_eq (b : BitVec 32) (d : EReal) : scaleOf b d = refScale b d := by
  unfold scaleOf refScale
  rw [show IntOp.shrui .vector b 28#32 = b >>> 28 from shrui_vec b 28 (by norm_num), add_comm, mul_left_comm, ← mul_assoc]

/-- The weight agrees. -/
theorem weight_eq (a b : BitVec 32) (d : EReal) (g : Fin 256 → BitVec 8) (j l : ℕ) (hj : j < 8)
    (hg : ∀ e, g e = 8#8 ∨ g e = 25#8 ∨ g e = 43#8) : weightOf a b d g j l = refWeight a b d g j l := by
  unfold weightOf refWeight
  rw [sword_pattern (codeOf b l) ⟨j, hj⟩, code_eq, level_value _ (hg _), scale_eq, zero_sub]

end Cert.KernelIdeal.Gen

namespace Cert.Proof
open Idealize.ShloMosaic Idealize.ShloMosaic.ValueIdx

/-- The precondition's one shape relation. -/
theorem pre_facts : Cert.Pre_levels.Facts := ⟨by decide⟩

/-- What the precondition says of the codebook: every entry is one of the three levels. -/
theorem levels_of_pre [hPre : Cert.Pre_levels.Facts] (x0 : FVec Ideal Cert.Pre_levels.S1x128x3072 .bf16) (x1 : IVec Cert.Pre_levels.S96x8192x2 32)
    (x2 : FVec Ideal Cert.Pre_levels.S12x8192 .f32) (x3 : IVec Cert.Pre_levels.S256x8 8)
    (h : Cert.Pre_levels.fn (F := Ideal) x0 x1 x2 x3 = fun _ => 1#1) (i : Cert.Pre_levels.S256x8.Idx) :
    x3 i = 8#8 ∨ x3 i = 25#8 ∨ x3 i = 43#8 := by
  have h := congrFun h i
  replace h : (BitVec.ofBool (x3 i == 8#8) ||| BitVec.ofBool (x3 i == 25#8)) ||| BitVec.ofBool (x3 i == 43#8) = 1#1 := h
  by_contra hn
  push Not at hn
  rw [beq_eq_false_iff_ne.mpr hn.1, beq_eq_false_iff_ne.mpr hn.2.1, beq_eq_false_iff_ne.mpr hn.2.2] at h
  exact absurd h (by decide)

end Cert.Proof
-- ==== Proof.Frames.lean ====
/- The claims that need no reading of values: the three frames and `preserves`. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Levels
public import Idealize.ShloMosaic.Lib.Bf16PairInverse
public import Idealize.ShloMosaic.Lib.Quiescent

@[expose] public section

noncomputable section

namespace Cert.Proof

open Idealize.ShloMosaic Idealize.SL.Sem

/-- The re-typed scratches' statements and each site's, at its shapes, by the rules' lemmas. -/
theorem preserves : Cert.preserves_Kernel_KernelIdeal :=
  open Cert.KernelIdeal IdealRules.bf16_pair in
  ⟨bufferStatement S64x2x3072 S64x1x3072, bufferStatement S1536x2x512 S1536x1x512, statement S128x256 S64x256,
    statement S64x2x256 S64x1x256, packStatement S8x128, statement S8x2x128 S8x1x128, statement S64x2x3072 S64x1x3072,
    statement S128x3072 S64x3072, statement S1536x2x256 S1536x1x256, statement S3072x256 S1536x256⟩

theorem frame_p : Cert.quiescent_Kernel := fun m ρ _ => Cert.Kernel.Gen.frame m ρ

theorem frame_pi : Cert.quiescent_KernelIdeal := fun m ρ _ => Cert.KernelIdeal.Gen.frame m ρ

/-- The reference's frame: its generated run read at the arguments; it declares no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! The same two frames where the codebook holds only the three levels. -/

theorem frame_pi_levels : Cert.quiescent_KernelIdeal_pre_levels (hPre_levels := pre_facts) :=
  fun m ρ _ => Cert.KernelIdeal.Gen.frame m ρ

theorem frame_ri_levels : Cert.quiescent_ReferenceIdeal_pre_levels (hPre_levels := pre_facts) :=
  fun m ρ _ => frame_ri m ρ trivial

end Cert.Proof

end
-- ==== Proof.XPerm.lean ====
module
public import proofs.«01_k».proof.Proof.Layout
public import proofs.«01_k».proof.Proof.Bits
public import proofs.«01_k».proof.Proof.Gen.KernelIdeal.Frame
public import Idealize.ShloMosaic.Lib.Pipeline.Value
public import Idealize.ShloMosaic.Lib.Pipeline.ValueKit.Geometry
public import Idealize.ShloMosaic.Lib.MatmulPlain
public import Idealize.ShloMosaic.Lib.Pipeline.ValueKit.Tiles
@[expose] public section
/-!
# The permuted activations

The first grid point multiplies every block of 256 activation columns by a matrix with one 1 in each column, which
moves the columns into the order the decoder produces the weights in. Read over the reals this is a permutation.
-/
namespace Cert.KernelIdeal.Gen
open Idealize.ShloMosaic Idealize.ShloMosaic.TcCoe Idealize.ShloMosaic.ValueIdx Idealize.SL Idealize.SL.RA Idealize.SL.BI Idealize.SL.Sem
open Cert.Bits
open scoped BigOperators

/-- The column of a block of 256 that place `p` of the block takes its value from. -/
def srcN (p : ℕ) : ℕ := 32 * (p / 2 % 8) + 16 * (p % 2) + 8 * (p / 16 % 2) + 4 * (p / 32 % 2) + p / 64 % 4

theorem srcN_lt (p : ℕ) : srcN p < 256 := by unfold srcN; omega

/-- The permutation matrix. -/
noncomputable def PERM : FVec Ideal S256x256 .bf16 :=
  k0_pay26 (iota Kind.tc S256x256 32 [1] iota_S256x256_d1_w32) (iota Kind.tc S256x256 32 [0] iota_S256x256_d0_w32) k0_pay24 k0_pay25

theorem one_f32 : Ideal.ofBits .f32 0x3F800000#32 = 1 := by
  simp [Ideal.ofBits, Ideal.ieee]
  rw [← EReal.coe_mul]
  norm_num

theorem src_word : ∀ p : Fin 256,
    IntOp.ori (IntOp.ori (IntOp.ori (IntOp.ori
        (IntOp.shli .vector (IntOp.andi (IntOp.shrsi .vector (BitVec.ofNat 32 p.val) 1#32) 7#32) 5#32)
        (IntOp.shli .vector (IntOp.andi (BitVec.ofNat 32 p.val) 1#32) 4#32))
        (IntOp.shli .vector (IntOp.andi (IntOp.shrsi .vector (BitVec.ofNat 32 p.val) 4#32) 1#32) 3#32))
        (IntOp.shli .vector (IntOp.andi (IntOp.shrsi .vector (BitVec.ofNat 32 p.val) 5#32) 1#32) 2#32))
        (IntOp.shrsi .vector (BitVec.ofNat 32 p.val) 6#32)
      = BitVec.ofNat 32 (srcN p.val) := by decide

theorem PERM_apply (k p : Fin 256) : PERM (ix2 k p) = if k.val = srcN p.val then 1 else 0 := by
  have e0 : iota Kind.tc S256x256 32 [0] iota_S256x256_d0_w32 (ix2 k p) = BitVec.ofNat 32 k.val := iota_single_apply _ _ _ _ _ _
  have e1 : iota Kind.tc S256x256 32 [1] iota_S256x256_d1_w32 (ix2 k p) = BitVec.ofNat 32 p.val := iota_single_apply _ _ _ _ _ _
  have key : PERM (ix2 k p) = Scalar.select (BitVec.ofBool (iota Kind.tc S256x256 32 [0] iota_S256x256_d0_w32 (ix2 k p) ==
     IntOp.ori (IntOp.ori (IntOp.ori (IntOp.ori
        (IntOp.shli .vector (IntOp.andi (IntOp.shrsi .vector (iota Kind.tc S256x256 32 [1] iota_S256x256_d1_w32 (ix2 k p)) 1#32) 7#32) 5#32)
        (IntOp.shli .vector (IntOp.andi (iota Kind.tc S256x256 32 [1] iota_S256x256_d1_w32 (ix2 k p)) 1#32) 4#32))
        (IntOp.shli .vector (IntOp.andi (IntOp.shrsi .vector (iota Kind.tc S256x256 32 [1] iota_S256x256_d1_w32 (ix2 k p)) 4#32) 1#32) 3#32))
        (IntOp.shli .vector (IntOp.andi (IntOp.shrsi .vector (iota Kind.tc S256x256 32 [1] iota_S256x256_d1_w32 (ix2 k p)) 5#32) 1#32) 2#32))
        (IntOp.shrsi .vector (iota Kind.tc S256x256 32 [1] iota_S256x256_d1_w32 (ix2 k p)) 6#32)))
      (Ideal.ofBits .f32 0x3F800000#32) (Ideal.ofBits .f32 0x00000000#32) := rfl
  rw [key, e0, e1, src_word, one_f32, Ideal.ofBits_zero_f32]
  have hlt := srcN_lt p.val
  by_cases h : k.val = srcN p.val
  · rw [if_pos h, h]; simp [Scalar.select]
  · rw [if_neg h]
    have hne : (BitVec.ofNat 32 k.val == BitVec.ofNat 32 (srcN p.val)) = false := by
      rw [beq_eq_false_iff_ne]
      intro hh
      have := congrArg BitVec.toNat hh
      simp only [BitVec.toNat_ofNat] at this
      omega
    rw [hne]; rfl

/-- One block of activations, permuted, as word rows of two. -/
noncomputable def XBLK (v : FVec Ideal S128x256 .bf16) : Vec Ideal S64x2x256 .bf16 :=
  interleaveRows S64x2x256
    (shapeCast S64x1x256 (rowsOfParity 0 S64x256 (truncf (F := Ideal) .bf16
      (matmul dot_S128x256_S256x256_S128x256_1_0_0_1_n_n none (shapeCast S128x256 v shapeCasts_S128x256_S128x256) PERM
        (constant S128x256 .f32 0x00000000#32)) bitsLt_bf16_f32) bitcasts_S128x256_w16_S64x256_w32) shapeCasts_S64x256_S64x1x256)
    (shapeCast S64x1x256 (rowsOfParity 1 S64x256 (truncf (F := Ideal) .bf16
      (matmul dot_S128x256_S256x256_S128x256_1_0_0_1_n_n none (shapeCast S128x256 v shapeCasts_S128x256_S128x256) PERM
        (constant S128x256 .f32 0x00000000#32)) bitsLt_bf16_f32) bitcasts_S128x256_w16_S64x256_w32) shapeCasts_S64x256_S64x1x256)
    bitcasts_S64x2x256_w16_S64x1x256_w32

theorem perm_apply (v : FVec Ideal S128x256 .bf16) (r : Fin 128) (p : Fin 256) :
    truncf (F := Ideal) .bf16 (matmul dot_S128x256_S256x256_S128x256_1_0_0_1_n_n none (shapeCast S128x256 v shapeCasts_S128x256_S128x256) PERM
        (constant S128x256 .f32 0x00000000#32)) bitsLt_bf16_f32 (ix2 r p) = v (ix2 r ⟨srcN p.val, srcN_lt _⟩) := by
  rw [shapeCast_self]
  refine (Ideal.matmul_plain_apply none v PERM _ r p).trans ?_
  rw [show (constant S128x256 .f32 0x00000000#32 : FVec Ideal S128x256 .f32) (ix2 r p) = 0 from Ideal.ofBits_zero_f32, zero_add]
  rw [Finset.sum_eq_single (⟨srcN p.val, srcN_lt _⟩ : Fin 256)]
  · rw [PERM_apply, if_pos rfl, mul_one]
  · intro k _ hk
    rw [PERM_apply, if_neg (fun h => hk (Fin.ext h)), mul_zero]
  · intro h; exact absurd (Finset.mem_univ _) h

theorem XBLK_apply (v : FVec Ideal S128x256 .bf16) (r : Fin 64) (q : Fin 2) (p : Fin 256) :
    XBLK v (ix3 r q p) = v (ix2 ⟨2 * r.val + q.val, by omega⟩ ⟨srcN p.val, srcN_lt _⟩) := by
  unfold XBLK
  refine (Layout.interleave3 _ _ _ r q p).trans ?_
  have hq : q = 0 ∨ q = 1 := by omega
  rcases hq with rfl | rfl
  · rw [if_pos rfl]
    refine (Layout.cast_add _ _ r 0 p).trans ?_
    refine (Layout.parity2 0 _ _ r p (by show 2 * r.val + 0 < 128; omega)).trans ?_
    exact perm_apply v _ p
  · rw [if_neg (by decide)]
    refine (Layout.cast_add _ _ r 0 p).trans ?_
    refine (Layout.parity2 1 _ _ r p (by show 2 * r.val + 1 < 128; omega)).trans ?_
    exact perm_apply v _ p

/-- The permuted activations, as word rows of two. -/
noncomputable def XBUF (x : Vec Ideal S128x3072 .bf16) (y : S64x2x3072.Idx) : EReal :=
  x (ix2 ⟨2 * (y 0).val + (y 1).val, by have h0 : (y 0).val < 64 := (y 0).isLt; have h1 : (y 1).val < 2 := (y 1).isLt; omega⟩
    ⟨256 * ((y 2).val / 256) + srcN ((y 2).val % 256), by
      have h2 : (y 2).val < 3072 := (y 2).isLt; have := srcN_lt ((y 2).val % 256); omega⟩)

/-- The store of one block writes the permuted activations of its place. -/
theorem x_piece (x : Vec Ideal S128x3072 .bf16) (arg1 : Memref sig .tc .vmem S128x3072 .bf16) (harg1 : arg1.IsWhole) (k : ℕ) (hk : k < 12)
    (inb : ∀ a, (![0, 0, 256 * k] : Fin 3 → ℕ) a + S64x2x256.size a ≤ S64x2x3072.size a)
    (inb' : ∀ a, (![0, 256 * k] : Fin 2 → ℕ) a + S128x256.size a ≤ S128x3072.size a)
    (j : (Rect.unit (s := S64x2x3072) ![0, 0, 256 * k] S64x2x256.size inb).shape.Idx) :
    XBLK (View.readAt (Elt Ideal) arg1.view (Rect.unit (s := S128x3072) ![0, 256 * k] S128x256.size inb').toLoadRect (harg1.unread x)) j
      = XBUF x ((Rect.unit (s := S64x2x3072) ![0, 0, 256 * k] S64x2x256.size inb).emb j) := by
  obtain ⟨r, q, p, rfl⟩ : ∃ (r : Fin 64) (q : Fin 2) (p : Fin 256), j = ix3 r q p := ⟨j 0, j 1, j 2, eq_ix3 (n0 := 64) (n1 := 2) (n2 := 256) j⟩
  refine (XBLK_apply _ r q p).trans ?_
  rw [View.readAt_eq_ld, harg1.read_unread]
  have h0 : ((Rect.unit (s := S64x2x3072) ![0, 0, 256 * k] S64x2x256.size inb).emb (ix3 r q p) 0).val = r.val := by
    rw [ValueKit.rect_emb_unit_val]; exact Nat.zero_add _
  have h1 : ((Rect.unit (s := S64x2x3072) ![0, 0, 256 * k] S64x2x256.size inb).emb (ix3 r q p) 1).val = q.val := by
    rw [ValueKit.rect_emb_unit_val]; exact Nat.zero_add _
  have h2 : ((Rect.unit (s := S64x2x3072) ![0, 0, 256 * k] S64x2x256.size inb).emb (ix3 r q p) 2).val = 256 * k + p.val := by
    rw [ValueKit.rect_emb_unit_val]; rfl
  show x _ = x _
  congr 1
  funext a
  refine Fin.ext ?_
  match a with
  | ⟨0, _⟩ =>
    rw [Rect.idx_unit_val]
    show 0 + (2 * r.val + q.val) = 2 * _ + _
    rw [h0, h1]; omega
  | ⟨1, _⟩ =>
    rw [Rect.idx_unit_val]
    show 256 * k + srcN p.val = 256 * (_ / 256) + srcN (_ % 256)
    rw [h2]
    have e1 : (256 * k + p.val) / 256 = k := by omega
    have e2 : (256 * k + p.val) % 256 = p.val := by omega
    rw [e1, e2]

/-- The twelve stores of the first point write the permuted activations. -/
theorem x_pieces (c : Dev nD) (arg1 : Memref sig .tc .vmem S128x3072 .bf16) (harg1 : arg1.IsWhole) (x0 : Vec Ideal S128x3072 .bf16)
    (pc : View.Piece (Elt Ideal) S64x2x3072 .bf16) (hpc : pc ∈ kernelRun0_A.sl.HS0_12 (F := Ideal) c arg1 harg1 x0) (j : pc.1.shape.Idx) :
    pc.2 j = XBUF x0 (pc.1.emb j) := by
  revert hpc
  sl_unfold_words
  intro hpc
  simp only [List.mem_cons, List.not_mem_nil, or_false] at hpc
  rcases hpc with rfl | rfl | rfl | rfl | rfl | rfl | rfl | rfl | rfl | rfl | rfl | rfl
  · exact x_piece x0 arg1 harg1 11 (by decide) inb_S64x2x3072_S64x2x256_0_0_2816 inb_S128x3072_S128x256_0_2816 j
  · exact x_piece x0 arg1 harg1 10 (by decide) inb_S64x2x3072_S64x2x256_0_0_2560 inb_S128x3072_S128x256_0_2560 j
  · exact x_piece x0 arg1 harg1 9 (by decide) inb_S64x2x3072_S64x2x256_0_0_2304 inb_S128x3072_S128x256_0_2304 j
  · exact x_piece x0 arg1 harg1 8 (by decide) inb_S64x2x3072_S64x2x256_0_0_2048 inb_S128x3072_S128x256_0_2048 j
  · exact x_piece x0 arg1 harg1 7 (by decide) inb_S64x2x3072_S64x2x256_0_0_1792 inb_S128x3072_S128x256_0_1792 j
  · exact x_piece x0 arg1 harg1 6 (by decide) inb_S64x2x3072_S64x2x256_0_0_1536 inb_S128x3072_S128x256_0_1536 j
  · exact x_piece x0 arg1 harg1 5 (by decide) inb_S64x2x3072_S64x2x256_0_0_1280 inb_S128x3072_S128x256_0_1280 j
  · exact x_piece x0 arg1 harg1 4 (by decide) inb_S64x2x3072_S64x2x256_0_0_1024 inb_S128x3072_S128x256_0_1024 j
  · exact x_piece x0 arg1 harg1 3 (by decide) inb_S64x2x3072_S64x2x256_0_0_768 inb_S128x3072_S128x256_0_768 j
  · exact x_piece x0 arg1 harg1 2 (by decide) inb_S64x2x3072_S64x2x256_0_0_512 inb_S128x3072_S128x256_0_512 j
  · exact x_piece x0 arg1 harg1 1 (by decide) inb_S64x2x3072_S64x2x256_0_0_256 inb_S128x3072_S128x256_0_256 j
  · exact x_piece x0 arg1 harg1 0 (by decide) inb_S64x2x3072_S64x2x256_0_0_0 inb_S128x3072_S128x256_0_0 j

/-- What the first point leaves in the activation scratch. -/
theorem sout_x (c : Dev nD) (i : grid0.Coords) (arg1 : Memref sig .tc .vmem S128x3072 .bf16) (harg1 : arg1.IsWhole) (arg2 : Memref sig .tc .vmem S96x8x128 .i32) (harg2 : arg2.IsWhole) (arg3 : Memref sig .tc .vmem S12x512 .f32) (harg3 : arg3.IsWhole) (arg4 : Memref sig .tc .vmem S8x256 .i8) (harg4 : arg4.IsWhole) (arg5 : Memref sig .tc .vmem S128x512 .bf16) (harg5 : arg5.IsWhole) (arg6 : Memref sig .tc .vmem S64x2x3072 .bf16) (harg6 : arg6.IsWhole) (arg7 : Memref sig .tc .vmem S10x8x128 .i32) (harg7 : arg7.IsWhole) (arg8 : Memref sig .tc .vmem S1536x2x512 .bf16) (harg8 : arg8.IsWhole) (hc0 : cond0_0 i) (x0 : Vec Ideal S128x3072 .bf16) (x1 : Vec Ideal S96x8x128 .i32) (x2 : Vec Ideal S12x512 .f32) (x3 : Vec Ideal S8x256 .i8) :
    sout0_A_0 (F := Ideal) c i arg1 harg1 arg2 harg2 arg3 harg3 arg4 harg4 arg5 harg5 arg6 harg6 arg7 harg7 arg8 harg8 hc0 x0 x1 x2 x3 = XBUF x0 := by
  unfold sout0_A_0
  rw [View.read_writes_junk_eq_canon]
  funext y
  refine View.canon_apply_of_pieces (XBUF x0) _ ?_ y (scover0_A_0 c i arg1 harg1 arg2 harg2 arg3 harg3 arg4 harg4 arg5 harg5 arg6 harg6 arg7 harg7 arg8 harg8 hc0 x0 x1 x2 x3 y)
  unfold kernelRun0_A
  exact x_pieces c arg1 harg1 x0

end Cert.KernelIdeal.Gen
-- ==== Proof.Out.lean ====
module
public import proofs.«01_k».proof.Proof.XPerm
public import proofs.«01_k».proof.Proof.Weight
@[expose] public section
/-!
# What a grid point writes

Each grid point writes, at row `r` and column `n` of its block, the sum over the 3072 activations of the activation
times the weight: the kernel's order of the sum is a permutation of this one.
-/
namespace Cert.KernelIdeal.Gen
open Idealize.ShloMosaic Idealize.ShloMosaic.TcCoe Idealize.ShloMosaic.ValueIdx Idealize.SL Idealize.SL.RA Idealize.SL.BI Idealize.SL.Sem
open Cert.Bits
open scoped BigOperators

/-- The weight of row `k`, column `n` of a block of columns. -/
noncomputable def wRow (x1 : Vec Ideal S96x8x128 .i32) (x2 : Vec Ideal S12x512 .f32) (x3 : Vec Ideal S8x256 .i8)
    (k : Fin 3072) (n : Fin 512) : EReal :=
  weightOf (x1 (ix3 ⟨k.val / 32, by omega⟩ ⟨2 * (n.val / 128), by omega⟩ ⟨n.val % 128, by omega⟩))
    (x1 (ix3 ⟨k.val / 32, by omega⟩ ⟨2 * (n.val / 128) + 1, by omega⟩ ⟨n.val % 128, by omega⟩))
    (x2 (ix2 ⟨k.val / 256, by omega⟩ n)) (fun c => x3 (ix2 ⟨k.val % 8, by omega⟩ c)) (k.val % 8) (k.val / 8 % 4)

/-- What a grid point writes. -/
noncomputable def OUT (x0 : Vec Ideal S128x3072 .bf16) (x1 : Vec Ideal S96x8x128 .i32) (x2 : Vec Ideal S12x512 .f32) (x3 : Vec Ideal S8x256 .i8) (y : S128x512.Idx) : EReal :=
  ∑ k : Fin 3072, x0 (ix2 (y 0) k) * wRow x1 x2 x3 k (y 1)

/-- The activation place `K` of the kernel's sum multiplies. -/
def src (K : Fin 3072) : Fin 3072 :=
  ⟨256 * (K.val / 256) + srcN (K.val % 256), by have := srcN_lt (K.val % 256); omega⟩

theorem srcN_inv : ∀ p : Fin 256,
    2 * (srcN p.val / 32) + srcN p.val / 16 % 2 + 16 * (srcN p.val / 8 % 2) + 32 * (srcN p.val / 4 % 2) + 64 * (srcN p.val % 4) = p.val := by
  decide

theorem src_injective : Function.Injective src := by
  intro K K' h
  have hv : 256 * (K.val / 256) + srcN (K.val % 256) = 256 * (K'.val / 256) + srcN (K'.val % 256) := congrArg Fin.val h
  have h1 := srcN_lt (K.val % 256)
  have h2 := srcN_lt (K'.val % 256)
  have e : srcN (K.val % 256) = srcN (K'.val % 256) := by omega
  have i1 := srcN_inv ⟨K.val % 256, by omega⟩
  have i2 := srcN_inv ⟨K'.val % 256, by omega⟩
  simp only at i1 i2
  rw [e] at i1
  refine Fin.ext ?_
  omega

theorem src_bijective : Function.Bijective src := Finite.injective_iff_bijective.mp src_injective

/-- The product the kernel forms from word rows of two. -/
theorem pay3_apply (a : Vec Ideal S64x2x3072 .bf16) (b : Vec Ideal S1536x2x256 .bf16) (r : Fin 128) (n : Fin 256) :
    k0_pay3 (F := Ideal) a b (ix2 r n)
      = ∑ K : Fin 3072, a (ix3 ⟨r.val / 2, by omega⟩ ⟨r.val % 2, by omega⟩ K) * b (ix3 ⟨K.val / 2, by omega⟩ ⟨K.val % 2, by omega⟩ n) := by
  unfold k0_pay3
  refine (Ideal.matmul_plain_apply none _ _ _ r n).trans ?_
  rw [show (constant S128x256 .f32 0x00000000#32 : FVec Ideal S128x256 .f32) (ix2 r n) = 0 from Ideal.ofBits_zero_f32, zero_add]
  refine Finset.sum_congr rfl fun K _ => congrArg₂ (· * ·) ?_ ?_
  · refine (Layout.interleave2 _ _ _ r K (by omega)).trans ?_
    rcases Nat.mod_two_eq_zero_or_one r.val with h | h
    · rw [if_pos h]
      refine (Layout.cast_drop _ _ _ K).trans ((Layout.parity3 0 _ _ _ 0 K).trans ?_)
      exact congrArg (fun t => a (ix3 _ t K)) (Fin.ext h.symm)
    · rw [if_neg (by omega)]
      refine (Layout.cast_drop _ _ _ K).trans ((Layout.parity3 1 _ _ _ 0 K).trans ?_)
      exact congrArg (fun t => a (ix3 _ t K)) (Fin.ext h.symm)
  · refine (Layout.interleave2 _ _ _ K n (by omega)).trans ?_
    rcases Nat.mod_two_eq_zero_or_one K.val with h | h
    · rw [if_pos h]
      refine (Layout.cast_drop _ _ _ n).trans ((Layout.parity3 0 _ _ _ 0 n).trans ?_)
      exact congrArg (fun t => b (ix3 _ t n)) (Fin.ext h.symm)
    · rw [if_neg (by omega)]
      refine (Layout.cast_drop _ _ _ n).trans ((Layout.parity3 1 _ _ _ 0 n).trans ?_)
      exact congrArg (fun t => b (ix3 _ t n)) (Fin.ext h.symm)

theorem srcN_fields : ∀ p : Fin 256, srcN p.val / 32 = p.val / 2 % 8 ∧ srcN p.val % 8 = p.val / 64 % 4 + 4 * (p.val / 32 % 2)
    ∧ srcN p.val / 8 % 4 = p.val / 16 % 2 + 2 * (p.val % 2) := by
  decide

/-- The fields of a place, read off its half. -/
theorem half_fields (K : ℕ) : K / 2 / 128 = K / 256 ∧ K % 256 / 2 % 8 = K / 2 % 8 ∧ K % 256 / 64 % 4 = K / 2 / 32 % 4
    ∧ K % 256 / 32 % 2 = K / 2 / 16 % 2 ∧ K % 256 / 16 % 2 = K / 2 / 8 % 2 ∧ K % 256 % 2 = K % 2 := by
  refine ⟨?_, ?_, ?_, ?_, ?_, ?_⟩ <;> omega

/-- The fields of a row of the weights. -/
theorem row_fields (k a s : ℕ) (h : k = 256 * a + s) (hs : s < 256) :
    k / 32 = 8 * a + s / 32 ∧ k / 256 = a ∧ k % 8 = s % 8 ∧ k / 8 % 4 = s / 8 % 4 := by
  subst h
  refine ⟨?_, ?_, ?_, ?_⟩ <;> omega

/-- `wRow` with its places given by other names. -/
theorem wRow_of (x1 : Vec Ideal S96x8x128 .i32) (x2 : Vec Ideal S12x512 .f32) (x3 : Vec Ideal S8x256 .i8)
    (k : Fin 3072) (n : Fin 512) (u : ℕ) (hu : u < 96) (v : ℕ) (hv : v < 12) (j : ℕ) (hj : j < 8) (l : ℕ) (hn : n.val < 512)
    (e1 : u = k.val / 32) (e2 : v = k.val / 256) (e3 : j = k.val % 8) (e4 : l = k.val / 8 % 4) :
    weightOf (x1 (ix3 ⟨u, hu⟩ ⟨2 * (n.val / 128), by omega⟩ ⟨n.val % 128, by omega⟩))
      (x1 (ix3 ⟨u, hu⟩ ⟨2 * (n.val / 128) + 1, by omega⟩ ⟨n.val % 128, by omega⟩))
      (x2 (ix2 ⟨v, hv⟩ ⟨n.val, hn⟩)) (fun c => x3 (ix2 ⟨j, hj⟩ c)) j l = wRow x1 x2 x3 k n := by
  subst e1 e2 e3 e4
  rfl

section
variable (arg2 : Memref sig .tc .vmem S96x8x128 .i32) (arg3 : Memref sig .tc .vmem S12x512 .f32)
  (arg7 : Memref sig .tc .vmem S10x8x128 .i32)
  (X2 : arg2.view.ty.Contents (Elt Ideal)) (X3 : arg3.view.ty.Contents (Elt Ideal)) (X7 : arg7.view.ty.Contents (Elt Ideal))
  (x0 : Vec Ideal S128x3072 .bf16) (x1 : Vec Ideal S96x8x128 .i32) (x2 : Vec Ideal S12x512 .f32) (x3 : Vec Ideal S8x256 .i8)
  (h2 : ∀ B, View.readAt (Elt Ideal) arg2.view B X2 = fun j => x1 (B.idx j))
  (h3 : ∀ B, View.readAt (Elt Ideal) arg3.view B X3 = fun j => x2 (B.idx j))
  (h7 : ∀ B, View.readAt (Elt Ideal) arg7.view B X7 = fun j => TBUF x3 (B.idx j))

include h2 h3 h7 in
/-- The kernel's sum, in the order of the activations. -/
theorem sum_src (r : Fin 128) (n : Fin 512) :
    ∑ K : Fin 3072, XBUF x0 (ix3 ⟨r.val / 2, by omega⟩ ⟨r.val % 2, by omega⟩ K)
        * WBUF arg2 arg3 arg7 X2 X3 X7 (ix3 ⟨K.val / 2, by omega⟩ ⟨K.val % 2, by omega⟩ n)
      = OUT x0 x1 x2 x3 (ix2 r n) := by
  unfold OUT
  refine Eq.trans ?_ (Function.Bijective.sum_comp src_bijective (fun k => x0 (ix2 r k) * wRow x1 x2 x3 k n))
  refine Finset.sum_congr rfl fun K _ => congrArg₂ (· * ·) ?_ ?_
  · unfold XBUF
    refine congrArg x0 (congrArg₂ ix2 (Fin.ext ?_) rfl)
    show 2 * (r.val / 2) + r.val % 2 = r.val
    omega
  · unfold WBUF
    refine (WAT_eq arg2 arg3 arg7 X2 X3 X7 x1 x2 x3 h2 h3 h7 _ _ _ _ (by show K.val % 2 < 2; omega)).trans ?_
    have f := srcN_fields ⟨K.val % 256, by omega⟩
    simp only at f
    obtain ⟨f1, f2, f3⟩ := f
    have hs : (src K).val = 256 * (K.val / 256) + srcN (K.val % 256) := rfl
    obtain ⟨g0, g1, g2, g3, g4, g5⟩ := half_fields K.val
    obtain ⟨s1, s2, s3, s4⟩ := row_fields _ _ _ hs (srcN_lt _)
    rw [g1] at f1
    rw [g2, g3] at f2
    rw [g4, g5] at f3
    exact wRow_of x1 x2 x3 (src K) n _ _ _ _ _ _ _ _ (show 8 * (K.val / 2 / 128) + K.val / 2 % 8 = (src K).val / 32 by rw [g0, s1, f1])
      (show K.val / 2 / 128 = (src K).val / 256 by rw [g0, s2])
      (show K.val / 2 / 32 % 4 + 4 * (K.val / 2 / 16 % 2) = (src K).val % 8 by rw [s3, f2])
      (show K.val / 2 / 8 % 2 + 2 * (K.val % 2) = (src K).val / 8 % 4 by rw [s4, f3])

include h2 h3 h7 in
/-- One of the two products of a grid point. -/
theorem half_apply (a : Vec Ideal S64x2x3072 .bf16) (b : Vec Ideal S1536x2x256 .bf16) (ha : a = XBUF x0) (o : ℕ)
    (inb : ∀ t, (![0, 0, o] : Fin 3 → ℕ) t + S1536x2x256.size t ≤ S1536x2x512.size t)
    (hb : b = fun j => WBUF arg2 arg3 arg7 X2 X3 X7 ((Rect.unit (s := S1536x2x512) ![0, 0, o] S1536x2x256.size inb).toLoadRect.idx j))
    (inb' : ∀ t, (![0, o] : Fin 2 → ℕ) t + S128x256.size t ≤ S128x512.size t)
    (x : (Rect.unit (s := S128x512) ![0, o] S128x256.size inb').shape.Idx) :
    k0_pay3 (F := Ideal) a b x = OUT x0 x1 x2 x3 ((Rect.unit (s := S128x512) ![0, o] S128x256.size inb').emb x) := by
  obtain ⟨r, n, rfl⟩ : ∃ (r : Fin 128) (n : Fin 256), x = ix2 r n := ⟨x 0, x 1, eq_ix2 (n0 := 128) (n1 := 256) x⟩
  have ho : o + 256 ≤ 512 := inb' 1
  have e : (Rect.unit (s := S128x512) ![0, o] S128x256.size inb').emb (ix2 r n) = ix2 r ⟨o + n.val, by omega⟩ := by
    funext t
    refine Fin.ext ?_
    rw [ValueKit.rect_emb_unit_val]
    match t with
    | ⟨0, _⟩ => exact Nat.zero_add _
    | ⟨1, _⟩ => rfl
  rw [e, ← sum_src arg2 arg3 arg7 X2 X3 X7 x0 x1 x2 x3 h2 h3 h7]
  refine (pay3_apply a b r n).trans ?_
  subst ha hb
  refine Finset.sum_congr rfl fun K _ => ?_
  refine congrArg (fun t => XBUF x0 _ * WBUF arg2 arg3 arg7 X2 X3 X7 t) ?_
  funext t
  refine Fin.ext ?_
  rw [Rect.idx_unit_val]
  match t with
  | ⟨0, _⟩ => exact Nat.zero_add _
  | ⟨1, _⟩ => exact Nat.zero_add _
  | ⟨2, _⟩ => rfl
end

/-- A grid point after the first writes the sums, from what the first left. -/
theorem out_B (c : Dev nD) (i : grid0.Coords) (arg1 : Memref sig .tc .vmem S128x3072 .bf16) (harg1 : arg1.IsWhole) (arg2 : Memref sig .tc .vmem S96x8x128 .i32) (harg2 : arg2.IsWhole) (arg3 : Memref sig .tc .vmem S12x512 .f32) (harg3 : arg3.IsWhole) (arg4 : Memref sig .tc .vmem S8x256 .i8) (harg4 : arg4.IsWhole) (arg5 : Memref sig .tc .vmem S128x512 .bf16) (harg5 : arg5.IsWhole) (arg6 : Memref sig .tc .vmem S64x2x3072 .bf16) (harg6 : arg6.IsWhole) (arg7 : Memref sig .tc .vmem S10x8x128 .i32) (harg7 : arg7.IsWhole) (arg8 : Memref sig .tc .vmem S1536x2x512 .bf16) (harg8 : arg8.IsWhole) (hc0 : ¬cond0_0 i) (x0 : Vec Ideal S128x3072 .bf16) (x1 : Vec Ideal S96x8x128 .i32) (x2 : Vec Ideal S12x512 .f32) (x3 : Vec Ideal S8x256 .i8) :
    out0_B_4 (F := Ideal) c i arg1 harg1 arg2 harg2 arg3 harg3 arg4 harg4 arg5 harg5 arg6 harg6 arg7 harg7 arg8 harg8 hc0 x0 x1 x2 x3 (XBUF x0) (TBUF x3) = OUT x0 x1 x2 x3 := by
  unfold out0_B_4
  rw [View.read_writes_junk_eq_canon]
  funext y
  refine View.canon_apply_of_pieces (OUT x0 x1 x2 x3) _ ?_ y (cover0_B_4 c i arg1 harg1 arg2 harg2 arg3 harg3 arg4 harg4 arg5 harg5 arg6 harg6 arg7 harg7 arg8 harg8 hc0 x0 x1 x2 x3 (XBUF x0) (TBUF x3) y)
  unfold kernelRun0_B
  dsimp only
  have h2 : ∀ B, View.readAt (Elt Ideal) arg2.view B (harg2.unread x1) = fun j => x1 (B.idx j) := by
    intro B; funext j; rw [View.readAt_apply, harg2.read_unread]
  have h3 : ∀ B, View.readAt (Elt Ideal) arg3.view B (harg3.unread x2) = fun j => x2 (B.idx j) := by
    intro B; funext j; rw [View.readAt_apply, harg3.read_unread]
  have h7 : ∀ B, View.readAt (Elt Ideal) arg7.view B (harg7.unread (TBUF x3)) = fun j => TBUF x3 (B.idx j) := by
    intro B; funext j; rw [View.readAt_apply, harg7.read_unread]
  have h6 : View.readAt (Elt Ideal) arg6.view (Rect.unit (s := S64x2x3072) ![0, 0, 0] ![64, 2, 3072] inb_S64x2x3072_S64x2x3072_0_0_0).toLoadRect (harg6.unread (XBUF x0)) = XBUF x0 := by
    rw [View.readAt_eq_ld, harg6.read_unread]
    exact View.ld_unit_zero (S := S64x2x3072) (by decide) _ _
  intro pc hpc x
  simp only [List.mem_cons, List.not_mem_nil, or_false] at hpc
  rcases hpc with rfl | rfl
  · exact half_apply arg2 arg3 arg7 _ _ _ x0 x1 x2 x3 h2 h3 h7 _ _ h6 256 inb_S1536x2x512_S1536x2x256_0_0_256
      (readCov_WBUF Variants.none c none i arg1 harg1 arg2 harg2 arg3 harg3 arg4 harg4 arg5 harg5 arg6 harg6 arg7 harg7 arg8 harg8 _ _ _ _ rfl _) inb_S128x512_S128x256_0_256 x
  · exact half_apply arg2 arg3 arg7 _ _ _ x0 x1 x2 x3 h2 h3 h7 _ _ h6 0 inb_S1536x2x512_S1536x2x256_0_0_0
      (readCov_WBUF Variants.none c none i arg1 harg1 arg2 harg2 arg3 harg3 arg4 harg4 arg5 harg5 arg6 harg6 arg7 harg7 arg8 harg8 _ _ _ _ rfl _) inb_S128x512_S128x256_0_0 x

/-- The first grid point writes the sums. -/
theorem out_A (c : Dev nD) (i : grid0.Coords) (arg1 : Memref sig .tc .vmem S128x3072 .bf16) (harg1 : arg1.IsWhole) (arg2 : Memref sig .tc .vmem S96x8x128 .i32) (harg2 : arg2.IsWhole) (arg3 : Memref sig .tc .vmem S12x512 .f32) (harg3 : arg3.IsWhole) (arg4 : Memref sig .tc .vmem S8x256 .i8) (harg4 : arg4.IsWhole) (arg5 : Memref sig .tc .vmem S128x512 .bf16) (harg5 : arg5.IsWhole) (arg6 : Memref sig .tc .vmem S64x2x3072 .bf16) (harg6 : arg6.IsWhole) (arg7 : Memref sig .tc .vmem S10x8x128 .i32) (harg7 : arg7.IsWhole) (arg8 : Memref sig .tc .vmem S1536x2x512 .bf16) (harg8 : arg8.IsWhole) (hc0 : cond0_0 i) (x0 : Vec Ideal S128x3072 .bf16) (x1 : Vec Ideal S96x8x128 .i32) (x2 : Vec Ideal S12x512 .f32) (x3 : Vec Ideal S8x256 .i8) :
    out0_A_4 (F := Ideal) c i arg1 harg1 arg2 harg2 arg3 harg3 arg4 harg4 arg5 harg5 arg6 harg6 arg7 harg7 arg8 harg8 hc0 x0 x1 x2 x3 = OUT x0 x1 x2 x3 := by
  unfold out0_A_4
  rw [View.read_writes_junk_eq_canon]
  funext y
  refine View.canon_apply_of_pieces (OUT x0 x1 x2 x3) _ ?_ y (cover0_A_4 c i arg1 harg1 arg2 harg2 arg3 harg3 arg4 harg4 arg5 harg5 arg6 harg6 arg7 harg7 arg8 harg8 hc0 x0 x1 x2 x3 y)
  unfold kernelRun0_A
  dsimp only
  have h2 : ∀ B, View.readAt (Elt Ideal) arg2.view B (harg2.unread x1) = fun j => x1 (B.idx j) := by
    intro B; funext j; rw [View.readAt_apply, harg2.read_unread]
  have h3 : ∀ B, View.readAt (Elt Ideal) arg3.view B (harg3.unread x2) = fun j => x2 (B.idx j) := by
    intro B; funext j; rw [View.readAt_apply, harg3.read_unread]
  have h7 : ∀ B, View.readAt (Elt Ideal) arg7.view B
      (arg7.view.writes (Elt Ideal) arg7.view.junk (kernelRun0_A.sl.HS1_10 (F := Ideal) c arg4 harg4 x3)) = fun j => TBUF x3 (B.idx j) := by
    intro B
    rw [View.readAt_writes_junk_eq_canon]
    funext j
    exact View.canon_apply_of_pieces (TBUF x3) _ (tables_pieces c arg4 harg4 x3) _
      (View.cover_of_tiledL (s := S10x8x128) (kernelRun0_A.sl.HS1_10 (F := Ideal) c arg4 harg4 x3) S1x8x128.size (by sl_kernel_rfl) _)
  have h6 : kernelRun0_A.sl.v4_raw (F := Ideal) c arg1 harg1 arg6 x0 = XBUF x0 := by
    unfold kernelRun0_A.sl.v4_raw
    rw [View.readCov_eq_canon']
    funext j
    refine (View.canon_apply_of_pieces (XBUF x0) _ (x_pieces c arg1 harg1 x0) _
      (View.cover_of_tiledL (s := S64x2x3072) (kernelRun0_A.sl.HS0_12 (F := Ideal) c arg1 harg1 x0) S64x2x256.size (by sl_kernel_rfl) _)).trans ?_
    refine congrArg (XBUF x0) ?_
    funext t
    refine Fin.ext ?_
    rw [Rect.idx_unit_val]
    match t with
    | ⟨0, _⟩ => exact Nat.zero_add _
    | ⟨1, _⟩ => exact Nat.zero_add _
    | ⟨2, _⟩ => exact Nat.zero_add _
  intro pc hpc x
  simp only [List.mem_cons, List.not_mem_nil, or_false] at hpc
  rcases hpc with rfl | rfl
  · exact half_apply arg2 arg3 arg7 _ _ _ x0 x1 x2 x3 h2 h3 h7 _ _ h6 256 inb_S1536x2x512_S1536x2x256_0_0_256
      (readCov_WBUF Variants.none c none i arg1 harg1 arg2 harg2 arg3 harg3 arg4 harg4 arg5 harg5 arg6 harg6 arg7 harg7 arg8 harg8 _ _ _ _ rfl _) inb_S128x512_S128x256_0_256 x
  · exact half_apply arg2 arg3 arg7 _ _ _ x0 x1 x2 x3 h2 h3 h7 _ _ h6 0 inb_S1536x2x512_S1536x2x256_0_0_0
      (readCov_WBUF Variants.none c none i arg1 harg1 arg2 harg2 arg3 harg3 arg4 harg4 arg5 harg5 arg6 harg6 arg7 harg7 arg8 harg8 _ _ _ _ rfl _) inb_S128x512_S128x256_0_0 x

end Cert.KernelIdeal.Gen
-- ==== Proof.Fold.lean ====
module
public import proofs.«01_k».proof.Proof.Gen.KernelIdeal.Value
public import proofs.«01_k».proof.Proof.Out
@[expose] public section
/-!
# The kernel's result

The first grid point leaves the permuted activations and the tables in the scratches; every later point finds them
there. So every point writes its block of one and the same function of the arguments.
-/
namespace Cert.KernelIdeal.Value
open Cert.KernelIdeal Cert.KernelIdeal.Gen Idealize.ShloMosaic Idealize.ShloMosaic.TcCoe Idealize.ShloMosaic.ValueIdx Idealize.SL.Sem
open scoped BigOperators

variable (m : (ℓ : Loc nD τ sig) → Buf (Elt Ideal) ℓ) (c : Dev nD)

/-- The arguments. -/
def A0 : Vec Ideal S1x128x3072 .bf16 := m ((c : Thread nD τ).loc main_arg0)
def A1 : Vec Ideal S96x8192x2 .i32 := m ((c : Thread nD τ).loc main_arg1)
def A2 : Vec Ideal S12x8192 .f32 := m ((c : Thread nD τ).loc main_arg2)
def A3 : Vec Ideal S256x8 .i8 := m ((c : Thread nD τ).loc main_arg3)

/-- The activations, as the kernel's first window reads them. -/
noncomputable def XA : Vec Ideal S128x3072 .bf16 := fun y => A0 m c (ix3 (0 : Fin 1) (y 0) (y 1))

/-- The codebook, transposed. -/
def GA : Vec Ideal S8x256 .i8 := fun y => A3 m c (ix2 (y 1) (y 0))

theorem host_x (x : Vec Ideal S1x128x3072 .bf16) (y : S128x3072.Idx) :
    shapeCast S128x3072 x shapeCasts_S1x128x3072_S128x3072 y = x (ix3 (0 : Fin 1) (y 0) (y 1)) := by
  refine shapeCast_apply _ _ _ _ ?_
  rw [Shape.rowMajor_val_three, Shape.rowMajor_val_two]
  have h0 : (y 0).val < 128 := (y 0).isLt
  show (0 * 128 + (y 0).val) * 3072 + (y 1).val = (y 0).val * 3072 + (y 1).val
  omega

theorem host_g (x : Vec Ideal S256x8 .i8) (y : S8x256.Idx) :
    transpose S8x256 [1, 0] x transposes_S256x8_S8x256_1_0 y = x (ix2 (y 1) (y 0)) :=
  transpose_apply [1, 0] _ _ y _ (fun b => match b with | ⟨0, _⟩ => rfl | ⟨1, _⟩ => rfl)

theorem host_q (x : Vec Ideal S96x8192x2 .i32) (s : Fin 96) (u l : Fin 128) :
    shapeCast S96x128x128 (transpose S96x64x2x128 [0, 1, 3, 2]
      (shapeCast S96x64x128x2 x shapeCasts_S96x8192x2_S96x64x128x2)
        transposes_S96x64x128x2_S96x64x2x128_0_1_3_2) shapeCasts_S96x64x2x128_S96x128x128 (ix3 s u l)
      = x (ix3 s (⟨128 * (u.val / 2) + l.val, by omega⟩ : Fin 8192) (⟨u.val % 2, by omega⟩ : Fin 2)) := by
  have h1 : ∀ y : Vec Ideal S96x64x2x128 .i32, shapeCast S96x128x128 y shapeCasts_S96x64x2x128_S96x128x128 (ix3 s u l)
      = y (ix4 s (⟨u.val / 2, by omega⟩ : Fin 64) (⟨u.val % 2, by omega⟩ : Fin 2) l) := by
    intro y
    refine shapeCast_apply _ _ _ _ ?_
    rw [Shape.rowMajor_val_four, Shape.rowMajor_val_three]
    show ((s.val * 64 + u.val / 2) * 2 + u.val % 2) * 128 + l.val = (s.val * 128 + u.val) * 128 + l.val
    omega
  have h2 : ∀ (y : Vec Ideal S96x64x128x2 .i32) (h : Fin 64) (b : Fin 2),
      transpose S96x64x2x128 [0, 1, 3, 2] y transposes_S96x64x128x2_S96x64x2x128_0_1_3_2 (ix4 s h b l) = y (ix4 s h l b) :=
    fun y h b => transpose_apply [0, 1, 3, 2] _ _ _ _
      (fun b => match b with | ⟨0, _⟩ => rfl | ⟨1, _⟩ => rfl | ⟨2, _⟩ => rfl | ⟨3, _⟩ => rfl)
  rw [h1, h2]
  refine shapeCast_apply _ _ _ _ ?_
  rw [Shape.rowMajor_val_four, Shape.rowMajor_val_three]
  show (s.val * 8192 + (128 * (u.val / 2) + l.val)) * 2 + u.val % 2 = ((s.val * 64 + u.val / 2) * 128 + l.val) * 2 + u.val % 2
  omega

theorem V_x : (V m c main_v3 : Vec Ideal S128x3072 .bf16) = XA m c := by
  have e : (V m c main_v3 : Vec Ideal S128x3072 .bf16) = shapeCast S128x3072 (A0 m c) shapeCasts_S1x128x3072_S128x3072 := by
    unfold V
    after_results_simp
    rfl
  rw [e]
  funext y
  exact host_x (A0 m c) y

theorem V_g : (V m c main_v4 : Vec Ideal S8x256 .i8) = GA m c := by
  have e : (V m c main_v4 : Vec Ideal S8x256 .i8) = transpose S8x256 [1, 0] (A3 m c) transposes_S256x8_S8x256_1_0 := by
    unfold V
    after_results_simp
    rfl
  rw [e]
  funext y
  exact host_g (A3 m c) y

theorem V_q (s : Fin 96) (u l : Fin 128) : (V m c main_v2 : Vec Ideal S96x128x128 .i32) (ix3 s u l)
    = A1 m c (ix3 s (⟨128 * (u.val / 2) + l.val, by omega⟩ : Fin 8192) (⟨u.val % 2, by omega⟩ : Fin 2)) := by
  have e : (V m c main_v2 : Vec Ideal S96x128x128 .i32) = shapeCast S96x128x128 (transpose S96x64x2x128 [0, 1, 3, 2]
      (shapeCast S96x64x128x2 (A1 m c) shapeCasts_S96x8192x2_S96x64x128x2)
        transposes_S96x64x128x2_S96x64x2x128_0_1_3_2) shapeCasts_S96x64x2x128_S96x128x128 := by
    unfold V
    after_results_simp
    rfl
  rw [e]
  exact host_q (A1 m c) s u l

/-! ## The windows' blocks -/

theorem blk_x (t : Fin cfg0.N) : (iblk m c 0 t : Vec Ideal S128x3072 .bf16) = XA m c := by
  rw [← V_x]
  funext j
  unfold iblk
  rw [View.read_apply]
  show V m c main_v3 _ = V m c main_v3 _
  congr 1
  funext a
  apply Fin.ext
  match a with
  | ⟨0, _⟩ => show 0 * 128 + 1 * (j 0).val = (j 0).val; omega
  | ⟨1, _⟩ => show 0 * 3072 + 1 * (j 1).val = (j 1).val; omega

theorem blk_g (t : Fin cfg0.N) : (iblk m c 3 t : Vec Ideal S8x256 .i8) = GA m c := by
  rw [← V_g]
  funext j
  unfold iblk
  rw [View.read_apply]
  show V m c main_v4 _ = V m c main_v4 _
  congr 1
  funext a
  apply Fin.ext
  match a with
  | ⟨0, _⟩ => show 0 * 8 + 1 * (j 0).val = (j 0).val; omega
  | ⟨1, _⟩ => show 0 * 256 + 1 * (j 1).val = (j 1).val; omega

theorem idx_1 : ∀ t : Fin cfg0.N, win0_1.index t (0 : Fin 3) = 0 ∧ win0_1.index t (1 : Fin 3) = t.val ∧ win0_1.index t (2 : Fin 3) = 0 :=
  (by decide +kernel : ∀ t : Fin grid0.N, _)

theorem idx_2 : ∀ t : Fin cfg0.N, win0_2.index t (0 : Fin 2) = 0 ∧ win0_2.index t (1 : Fin 2) = t.val :=
  (by decide +kernel : ∀ t : Fin grid0.N, _)

theorem blk_q (t : Fin cfg0.N) (s : Fin 96) (u : Fin 8) (l : Fin 128) : (iblk m c 1 t : Vec Ideal S96x8x128 .i32) (ix3 s u l)
    = (V m c main_v2 : Vec Ideal S96x128x128 .i32) (ix3 s (⟨8 * t.val + u.val, by have h := lt_of_lt_of_eq t.isLt (show cfg0.N = 16 from N_0); omega⟩ : Fin 128) l) := by
  obtain ⟨i0, i1, i2⟩ := idx_1 t
  unfold iblk
  rw [View.read_apply]
  show V m c main_v2 _ = V m c main_v2 _
  congr 1
  funext a
  apply Fin.ext
  match a with
  | ⟨0, _⟩ => show win0_1.index t (0 : Fin 3) * 96 + 1 * s.val = s.val; rw [i0]; omega
  | ⟨1, _⟩ => show win0_1.index t (1 : Fin 3) * 8 + 1 * u.val = 8 * t.val + u.val; rw [i1]; omega
  | ⟨2, _⟩ => show win0_1.index t (2 : Fin 3) * 128 + 1 * l.val = l.val; rw [i2]; omega

theorem blk_d (t : Fin cfg0.N) (v : Fin 12) (n : Fin 512) : (iblk m c 2 t : Vec Ideal S12x512 .f32) (ix2 v n)
    = A2 m c (ix2 v (⟨512 * t.val + n.val, by have h := lt_of_lt_of_eq t.isLt (show cfg0.N = 16 from N_0); omega⟩ : Fin 8192)) := by
  obtain ⟨i0, i1⟩ := idx_2 t
  unfold iblk
  rw [View.read_apply]
  show V m c main_arg2 _ = A2 m c _
  rw [V_main_arg2]
  show A2 m c _ = A2 m c _
  congr 1
  funext a
  apply Fin.ext
  match a with
  | ⟨0, _⟩ => show win0_2.index t (0 : Fin 2) * 12 + 1 * v.val = v.val; rw [i0]; omega
  | ⟨1, _⟩ => show win0_2.index t (1 : Fin 2) * 512 + 1 * n.val = 512 * t.val + n.val; rw [i1]; omega

/-! ## Every point -/

/-- After a point: its block of the result, the permuted activations and the tables. -/
theorem outs_eq : ∀ (n : ℕ) (hn : n < cfg0.N), outsAt0 m c n hn
    = (OUT (XA m c) (iblk m c 1 ⟨n, hn⟩) (iblk m c 2 ⟨n, hn⟩) (GA m c), XBUF (XA m c), TBUF (GA m c))
  | 0, hn => by
    rw [outsAt0_zero, stAt0_A m c ⟨0, hn⟩ junk0 rfl, out_A, sout_x, sout_tables]
    simp only [blk_x, blk_g]
  | n + 1, hn => by
    have hN := lt_of_lt_of_eq hn (show cfg0.N = 16 from N_0)
    rw [outsAt0_succ, outs_eq n, stAt0_B m c ⟨n + 1, hn⟩ _ (by show ¬(n + 1) % 16 = 0; omega)]
    have h0 : (iblk m c 0 ⟨n + 1, hn⟩ : Vec Ideal S128x3072 .bf16) = XA m c := blk_x m c _
    have h3 : (iblk m c 3 ⟨n + 1, hn⟩ : Vec Ideal S8x256 .i8) = GA m c := blk_g m c _
    dsimp only
    rw [h0, h3, out_B]
    rfl

/-- Row `k`, column `N` of the weights, from the arguments. -/
noncomputable def wFull (a1 : Vec Ideal S96x8192x2 .i32) (a2 : Vec Ideal S12x8192 .f32) (a3 : Vec Ideal S256x8 .i8)
    (k : Fin 3072) (N : Fin 8192) : EReal :=
  weightOf (a1 (ix3 (⟨k.val / 32, by omega⟩ : Fin 96) N (0 : Fin 2))) (a1 (ix3 (⟨k.val / 32, by omega⟩ : Fin 96) N (1 : Fin 2)))
    (a2 (ix2 (⟨k.val / 256, by omega⟩ : Fin 12) N)) (fun e => a3 (ix2 e (⟨k.val % 8, by omega⟩ : Fin 8))) (k.val % 8) (k.val / 8 % 4)

theorem congr_weight {a a' b b' : BitVec 32} {d d' : EReal} {g g' : Fin 256 → BitVec 8} {j l : ℕ} (ha : a = a') (hb : b = b') (hd : d = d')
    (hg : g = g') : weightOf a b d g j l = weightOf a' b' d' g' j l := by
  subst ha hb hd hg; rfl

/-- A block's row of weights, from the arguments. -/
theorem wRow_block (t : Fin cfg0.N) (k : Fin 3072) (n : Fin 512) (N : Fin 8192) (h : N.val = 512 * t.val + n.val) :
    wRow (iblk m c 1 t) (iblk m c 2 t) (GA m c) k n = wFull (A1 m c) (A2 m c) (A3 m c) k N := by
  have hT := lt_of_lt_of_eq t.isLt (show cfg0.N = 16 from N_0)
  unfold wRow wFull
  rw [blk_q, blk_q, V_q, V_q, blk_d]
  refine congr_weight ?_ ?_ ?_ rfl
  · refine congrArg₂ (fun u v => A1 m c (ix3 (⟨k.val / 32, by omega⟩ : Fin 96) u v)) (Fin.ext ?_) (Fin.ext ?_)
    · show 128 * ((8 * t.val + 2 * (n.val / 128)) / 2) + n.val % 128 = N.val
      omega
    · show (8 * t.val + 2 * (n.val / 128)) % 2 = 0
      omega
  · refine congrArg₂ (fun u v => A1 m c (ix3 (⟨k.val / 32, by omega⟩ : Fin 96) u v)) (Fin.ext ?_) (Fin.ext ?_)
    · show 128 * ((8 * t.val + (2 * (n.val / 128) + 1)) / 2) + n.val % 128 = N.val
      omega
    · show (8 * t.val + (2 * (n.val / 128) + 1)) % 2 = 1
      omega
  · exact congrArg (fun u => A2 m c (ix2 (⟨k.val / 256, by omega⟩ : Fin 12) u)) (Fin.ext h.symm)

/-- The kernel's result at row `r`, column `N`. -/
theorem G4_apply (r : Fin 128) (N : Fin 8192) : (G4 m c : Vec Ideal S128x8192 .bf16) (ix2 r N) = ∑ k : Fin 3072,
    A0 m c (ix3 (0 : Fin 1) r k) * wFull (A1 m c) (A2 m c) (A3 m c) k N := by
  have hN : cfg0.N = 16 := N_0
  have hp : pt4Of (ix2 r N) = N.val / 512 := by
    show 16 * (r.val / 128 - 0) + 1 * (N.val / 512 - 0) = N.val / 512
    omega
  have ht : pt4Of (ix2 r N) < cfg0.N := by rw [hp, hN]; omega
  unfold G4
  rw [dif_pos ht, ← outsAt0_sweep m c _ ht, outs_eq]
  show OUT (XA m c) (iblk m c 1 ⟨_, ht⟩) (iblk m c 2 ⟨_, ht⟩) (GA m c) (loc4Of (ix2 r N)) = _
  unfold OUT
  refine Finset.sum_congr rfl fun k _ => congrArg₂ (fun a b : EReal => a * b) ?_ ?_
  · unfold XA
    refine congrArg _ (congrArg (fun t => ix3 (0 : Fin 1) t k) (Fin.ext ?_))
    show r.val % 128 = r.val
    omega
  · refine wRow_block m c ⟨_, ht⟩ k _ N ?_
    show N.val = 512 * pt4Of (ix2 r N) + N.val % 512
    rw [hp]
    omega

end Cert.KernelIdeal.Value
-- ==== Proof.Algebraic.lean ====
module
public import proofs.«01_k».proof.Defs
public import proofs.«01_k».proof.Proof.Fold
public import proofs.«01_k».proof.Proof.Levels
public import proofs.«01_k».proof.Proof.Gen.ReferenceIdeal.Run
@[expose] public section
/-!
# The kernel and the reference agree over the reals

Both runs end, and each element of the result is the same sum over the 3072 rows of an activation times a weight.
-/
noncomputable section
namespace Cert.Proof
open Idealize.ShloMosaic Idealize.ShloMosaic.ValueIdx Idealize.SL.Sem
open Cert.KernelIdeal Cert.KernelIdeal.Gen Cert.KernelIdeal.Value

/-- Row `k`, column `N` of the weights: the decoder's and the reference's, under the levels. -/
theorem wFull_eq (a1 : Vec Ideal S96x8192x2 .i32) (a2 : Vec Ideal S12x8192 .f32) (a3 : Vec Ideal S256x8 .i8)
    (h : ∀ i, a3 i = 8#8 ∨ a3 i = 25#8 ∨ a3 i = 43#8) (k : Fin 3072) (N : Fin 8192) :
    wFull a1 a2 a3 k N = Cert.ReferenceIdeal.Read.refFull a1 a2 a3 k N :=
  weight_eq _ _ _ _ _ _ (Nat.mod_lt _ (by norm_num)) fun _ => h _

/-- The kernel's result is the reference's function of the arguments. -/
theorem result_eq (m : (ℓ : Loc nD τ sig) → Buf (Elt Ideal) ℓ) (c : Dev nD)
    (h : ∀ i, A3 m c i = 8#8 ∨ A3 m c i = 25#8 ∨ A3 m c i = 43#8) :
    (G4 m c : Vec Ideal S128x8192 .bf16) = Cert.ReferenceIdeal.Read.val_main_v65 (F := Ideal) (A0 m c) (A1 m c) (A2 m c) (A3 m c) := by
  funext i
  obtain ⟨r, N, rfl⟩ : ∃ (r : Fin 128) (N : Fin 8192), i = ix2 r N :=
    ⟨⟨(i 0).val, (i 0).isLt⟩, ⟨(i 1).val, (i 1).isLt⟩, by funext a; match a with
      | ⟨0, _⟩ => rfl
      | ⟨1, _⟩ => rfl⟩
  have hs : (∑ k : Fin 3072, A0 m c (ix3 (0 : Fin 1) r k) * wFull (A1 m c) (A2 m c) (A3 m c) k N)
      = ∑ k : Fin 3072, A0 m c (ix3 (0 : Fin 1) r k) * Cert.ReferenceIdeal.Read.refFull (A1 m c) (A2 m c) (A3 m c) k N :=
    Finset.sum_congr rfl fun k _ => congrArg (fun w : EReal => A0 m c (ix3 (0 : Fin 1) r k) * w) (wFull_eq _ _ _ h k N)
  exact (G4_apply m c r N).trans (hs.trans (Cert.ReferenceIdeal.Read.ref_apply (A0 m c) (A1 m c) (A2 m c) (A3 m c) r N).symm)

theorem algebraic : Cert.algebraic_KernelIdeal_ReferenceIdeal_pre_levels (hPre_levels := pre_facts) := by
  intro m g m' g' hpre hag
  refine ⟨fun c => G4 m c, Cert.KernelIdeal.Value.run (F := Ideal) m g, ?_⟩
  refine (θ_run Cert.ReferenceIdeal.defs _ _).mono (fun r hr c => ⟨(hr c).1.trans ?_, (hr c).2⟩)
    (Cert.ReferenceIdeal.Value.run (F := Ideal) m' g')
  obtain ⟨h0, h1, h2, h3⟩ := hag c
  refine (Cert.ReferenceIdeal.Read.val_main_v65_eq m' c).trans ?_
  rw [h0, h1, h2, h3]
  exact (result_eq m c (levels_of_pre (hPre := pre_facts) _ _ _ _ (hpre c))).symm

end Cert.Proof
end
-- ==== Proof.lean ====
/- The claims' conjunction: the frames of the kernel, of its idealization and of the reference, `preserves`, and the
   equality of the kernel's result with the reference's over the reals. -/
module

public import proofs.«01_k».proof.Defs
public import proofs.«01_k».proof.Proof.Frames
public import proofs.«01_k».proof.Proof.Algebraic

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, pre_facts,
    frame_p, frame_pi, frame_pi_levels, frame_ri, frame_ri_levels, preserves, algebraic⟩

end Cert.Proof

end
